-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_qmax" .f32 0x3E124925#32 ((1 / 7 : ℝ) : EReal)

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v26) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S6x256x64 : S_.BroadcastsInDim S6x256x64 (![] : Fin 0 → Fin S6x256x64.rank)
  reducesTo_S6x256x64_S_d0_1_2 : S6x256x64.ReducesTo [0, 1, 2] S_

variable [Facts]

def fn {F : FTy → Type} [FloatOps F] (main_arg0 : FVec F S6x256x6144 .bf16) (main_arg1 : FVec F S6x256x48 .f32) (main_arg2 : FVec F S6x256x48 .f32) (main_arg3 : FVec F S64 .f32) (main_arg4 : FVec F S6x256x64x96 .fp8e5m2) (main_arg5 : FVec F S6x256x64 .f32) : IVec S_ 1 :=
  let main_cst : FVec F S_ .f32 := constant S_ .f32 0x00000000#32
  let main_v0 : FVec F S64 .f32 := broadcastInDim S64 ![] bcast_S_S64 main_cst
  let main_v1 : IVec S64 1 := cmpf .une main_arg3 main_v0
  let main_c : IVec S_ 1 := constantI S_ 1 1#1
  let main_v2 : IVec S_ 1 := (fun x v => Host.reduce IntOp.andi x v reducesTo_S64_S_d0 h_S_) main_v1 main_c
  let main_cst_0 : FVec F S_ .f32 := constant S_ .f32 0x00000000#32
  let main_v3 : FVec F S6x256x64 .f32 := broadcastInDim S6x256x64 ![] bcast_S_S6x256x64 main_cst_0
  let main_v4 : IVec S6x256x64 1 := cmpf .oge main_arg5 main_v3
  let main_cst_1 : FVec F S_ .f32 := constant S_ .f32 0x7F800000#32
  let main_v5 : FVec F S6x256x64 .f32 := broadcastInDim S6x256x64 ![] bcast_S_S6x256x64 main_cst_1
  let main_v6 : IVec S6x256x64 1 := cmpf .olt main_arg5 main_v5
  let main_v7 : IVec S6x256x64 1 := andi main_v4 main_v6
  let main_c_2 : IVec S_ 1 := constantI S_ 1 1#1
  let main_v8 : IVec S_ 1 := (fun x v => Host.reduce IntOp.andi x v reducesTo_S6x256x64_S_d0_1_2 h_S_) main_v7 main_c_2
  let main_v9 : IVec S_ 1 := andi main_v2 main_v8
  main_v9
-- ==== Kernel.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S6x48x256 : Shape := ⟨3, ![6, 48, 256]⟩
abbrev S6x64x96x256 : Shape := ⟨4, ![6, 64, 96, 256]⟩
abbrev S6x64x256 : Shape := ⟨3, ![6, 64, 256]⟩
abbrev S64x1 : Shape := ⟨2, ![64, 1]⟩
abbrev S6x64x48x256 : Shape := ⟨4, ![6, 64, 48, 256]⟩
abbrev S1x256x768 : Shape := ⟨3, ![1, 256, 768]⟩
abbrev S1x48x256 : Shape := ⟨3, ![1, 48, 256]⟩
abbrev S1x8x96x256 : Shape := ⟨4, ![1, 8, 96, 256]⟩
abbrev S1x8x256 : Shape := ⟨3, ![1, 8, 256]⟩
abbrev S1x8x48x256 : Shape := ⟨4, ![1, 8, 48, 256]⟩
abbrev S768x256 : Shape := ⟨2, ![768, 256]⟩
abbrev S64x256 : Shape := ⟨2, ![64, 256]⟩
abbrev S256x256 : Shape := ⟨2, ![256, 256]⟩
abbrev S48x96 : Shape := ⟨2, ![48, 96]⟩
abbrev S1x256x256 : Shape := ⟨3, ![1, 256, 256]⟩
abbrev S48x256 : Shape := ⟨2, ![48, 256]⟩
abbrev S96x256 : Shape := ⟨2, ![96, 256]⟩
abbrev S256 : Shape := ⟨1, ![256]⟩
abbrev S1x256 : Shape := ⟨2, ![1, 256]⟩
abbrev S1 : Shape := ⟨1, ![1]⟩
abbrev S1x1x96x256 : Shape := ⟨4, ![1, 1, 96, 256]⟩
abbrev S1x1x256 : Shape := ⟨3, ![1, 1, 256]⟩
abbrev S1x1x48x256 : Shape := ⟨4, ![1, 1, 48, 256]⟩
abbrev S8x256 : Shape := ⟨2, ![8, 256]⟩
abbrev S6x256x64x48 : Shape := ⟨4, ![6, 256, 64, 48]⟩

abbrev nBuf : Space → Nat
  | .hbm => 19
  | .vmem => 22
  | .smem => 1
  | _ => 0

abbrev bufTy : (tb : Table) → Fin (tcTables nBuf tb) → BufTy
  | .hbm, ⟨0, _⟩ => ⟨S6x256x6144, .bf16⟩
  | .hbm, ⟨1, _⟩ => ⟨S6x256x48, .f32⟩
  | .hbm, ⟨2, _⟩ => ⟨S6x256x48, .f32⟩
  | .hbm, ⟨3, _⟩ => ⟨S64, .f32⟩
  | .hbm, ⟨4, _⟩ => ⟨S6x256x64x96, .fp8e5m2⟩
  | .hbm, ⟨5, _⟩ => ⟨S6x256x64, .f32⟩
  | .hbm, ⟨6, _⟩ => ⟨S6x48x256, .f32⟩
  | .hbm, ⟨7, _⟩ => ⟨S6x48x256, .f32⟩
  | .hbm, ⟨8, _⟩ => ⟨S6x64x96x256, .fp8e5m2⟩
  | .hbm, ⟨9, _⟩ => ⟨S6x64x256, .f32⟩
  | .hbm, ⟨10, _⟩ => ⟨S6x256x6144, .bf16⟩
  | .hbm, ⟨11, _⟩ => ⟨S64x1, .f32⟩
  | .hbm, ⟨12, _⟩ => ⟨S6x64x256, .f32⟩
  | .hbm, ⟨13, _⟩ => ⟨S6x64x48x256, .i8⟩
  | .hbm, ⟨14, _⟩ => ⟨S6x64x256, .f32⟩
  | .hbm, ⟨15, _⟩ => ⟨S64, .f32⟩
  | .hbm, ⟨16, _⟩ => ⟨S6x256x64, .f32⟩
  | .hbm, ⟨17, _⟩ => ⟨S6x256x64x48, .i8⟩
  | .hbm, ⟨18, _⟩ => ⟨S6x256x64, .f32⟩
  | .local _ .vmem, ⟨0, _⟩ => ⟨S1x256x768, .bf16⟩
  | .local _ .vmem, ⟨1, _⟩ => ⟨S1x256x768, .bf16⟩
  | .local _ .vmem, ⟨2, _⟩ => ⟨S1x48x256, .f32⟩
  | .local _ .vmem, ⟨3, _⟩ => ⟨S1x48x256, .f32⟩
  | .local _ .vmem, ⟨4, _⟩ => ⟨S1x48x256, .f32⟩
  | .local _ .vmem, ⟨5, _⟩ => ⟨S1x48x256, .f32⟩
  | .local _ .vmem, ⟨6, _⟩ => ⟨S1x8x96x256, .fp8e5m2⟩
  | .local _ .vmem, ⟨7, _⟩ => ⟨S1x8x96x256, .fp8e5m2⟩
  | .local _ .vmem, ⟨8, _⟩ => ⟨S1x8x256, .f32⟩
  | .local _ .vmem, ⟨9, _⟩ => ⟨S1x8x256, .f32⟩
  | .local _ .vmem, ⟨10, _⟩ => ⟨S1x256x768, .bf16⟩
  | .local _ .vmem, ⟨11, _⟩ => ⟨S1x256x768, .bf16⟩
  | .local _ .vmem, ⟨12, _⟩ => ⟨S64x1, .f32⟩
  | .local _ .vmem, ⟨13, _⟩ => ⟨S1x8x256, .f32⟩
  | .local _ .vmem, ⟨14, _⟩ => ⟨S1x8x256, .f32⟩
  | .local _ .vmem, ⟨15, _⟩ => ⟨S1x8x48x256, .i8⟩
  | .local _ .vmem, ⟨16, _⟩ => ⟨S1x8x48x256, .i8⟩
  | .local _ .vmem, ⟨17, _⟩ => ⟨S1x8x256, .f32⟩
  | .local _ .vmem, ⟨18, _⟩ => ⟨S1x8x256, .f32⟩
  | .local _ .vmem, ⟨19, _⟩ => ⟨S768x256, .f32⟩
  | .local _ .vmem, ⟨20, _⟩ => ⟨S768x256, .bf16⟩
  | .local _ .vmem, ⟨21, _⟩ => ⟨S64x256, .f32⟩
  | .local _ .smem, ⟨0, _⟩ => ⟨S64, .f32⟩
  | _, _ => ⟨S6x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![6, 8], ![false, false]⟩

def k0_off1 (i : grid0.Coords) (c0_i32 : BitVec 32) : Fin 1 → Nat :=
  let arg1 : BitVec 32 := BitVec.ofNat 32 (i 1).val
  let c8_i32 : BitVec 32 := 8#32
  let v56 : BitVec 32 := Scalar.muli arg1 c8_i32
  let v57 : BitVec 32 := Scalar.addi v56 c0_i32
  let v58 : Index := Scalar.indexCast v57
  ![v58.toNat]
def k0_mult1 (i : grid0.Coords) : BitVec 32 :=
  let arg1 : BitVec 32 := BitVec.ofNat 32 (i 1).val
  let c8_i32_340 : BitVec 32 := 8#32
  let v766 : BitVec 32 := Scalar.muli arg1 c8_i32_340
  v766
def k0_cond1 (i : grid0.Coords) : BitVec 1 :=
  let arg0 : BitVec 32 := BitVec.ofNat 32 (i 0).val
  let c0_i32_344 : BitVec 32 := 0#32
  let v770 : BitVec 1 := Scalar.cmpi .eq arg0 c0_i32_344
  let v771 : BitVec 32 := Scalar.extui v770
  let c0_i32_345 : BitVec 32 := 0#32
  let v772 : BitVec 1 := Scalar.cmpi .ne v771 c0_i32_345
  v772

def k0_off2 (i : grid0.Coords) : Fin 2 → Nat :=
  let arg1 : BitVec 32 := BitVec.ofNat 32 (i 1).val
  let c8_i32_340 : BitVec 32 := 8#32
  let v766 : BitVec 32 := Scalar.muli arg1 c8_i32_340
  let v767 : BitVec 32 := v766
  let v781 : Index := Scalar.indexCast v767
  let c0_351 : Index := 0#32
  ![v781.toNat, 0]
def k0_cond2 (i : grid0.Coords) : BitVec 1 :=
  let arg0 : BitVec 32 := BitVec.ofNat 32 (i 0).val
  let c0_i32_346 : BitVec 32 := 0#32
  let v773 : BitVec 1 := Scalar.cmpi .sgt arg0 c0_i32_346
  let v774 : BitVec 32 := Scalar.extui v773
  let c0_i32_347 : BitVec 32 := 0#32
  let v775 : BitVec 1 := Scalar.cmpi .ne v774 c0_i32_347
  v775

def k0_off3 (i : grid0.Coords) : Fin 2 → Nat :=
  let arg1 : BitVec 32 := BitVec.ofNat 32 (i 1).val
  let c8_i32_340 : BitVec 32 := 8#32
  let v766 : BitVec 32 := Scalar.muli arg1 c8_i32_340
  let v767 : BitVec 32 := v766
  let v781 : Index := Scalar.indexCast v767
  let c0_351 : Index := 0#32
  ![v781.toNat, 0]
def k0_cond3 (i : grid0.Coords) : BitVec 1 :=
  let arg0 : BitVec 32 := BitVec.ofNat 32 (i 0).val
  let c5_i32_348 : BitVec 32 := 5#32
  let v776 : BitVec 1 := Scalar.cmpi .eq arg0 c5_i32_348
  let arg1 : BitVec 32 := BitVec.ofNat 32 (i 1).val
  let c7_i32_349 : BitVec 32 := 7#32
  let v777 : BitVec 1 := Scalar.cmpi .eq arg1 c7_i32_349
  let v778 : BitVec 1 := Scalar.andi v776 v777
  let v779 : BitVec 32 := Scalar.extui v778
  let c0_i32_350 : BitVec 32 := 0#32
  let v780 : BitVec 1 := Scalar.cmpi .ne v779 c0_i32_350
  v780

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x48x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x48x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x96x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x48x256 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "inv_qmax" => some ((1 / 7 : ℝ) : EReal)
  | _ => none
-- ==== ReferenceIdeal.lean ====
abbrev S6x256x6144 : Shape := ⟨3, ![6, 256, 6144]⟩
abbrev S6x256x48 : Shape := ⟨3, ![6, 256, 48]⟩
abbrev S64 : Shape := ⟨1, ![64]⟩
abbrev S6x256x64x96 : Shape := ⟨4, ![6, 256, 64, 96]⟩
abbrev S6x256x64 : Shape := ⟨3, ![6, 256, 64]⟩
abbrev S6x256x1x48 : Shape := ⟨4, ![6, 256, 1, 48]⟩
abbrev S6x256x64x48 : Shape := ⟨4, ![6, 256, 64, 48]⟩
abbrev S_ : Shape := ⟨0, ![]⟩
abbrev S1x1x64 : Shape := ⟨3, ![1, 1, 64]⟩
abbrev S6x256x64x1 : Shape := ⟨4, ![6, 256, 64, 1]⟩

abbrev nBuf : Space → Nat
  | .hbm => 106
  | .vmem => 5
  | .smem => 0
  | _ => 0

abbrev bufTy : (tb : Table) → Fin (tcTables nBuf tb) → BufTy
  | .hbm, ⟨0, _⟩ => ⟨S6x256x6144, .bf16⟩
  | .hbm, ⟨1, _⟩ => ⟨S6x256x48, .f32⟩
  | .hbm, ⟨2, _⟩ => ⟨S6x256x48, .f32⟩
  | .hbm, ⟨3, _⟩ => ⟨S64, .f32⟩
  | .hbm, ⟨4, _⟩ => ⟨S6x256x64x96, .fp8e5m2⟩
  | .hbm, ⟨5, _⟩ => ⟨S6x256x64, .f32⟩
  | .hbm, ⟨6, _⟩ => ⟨S6x256x1x48, .f32⟩
  | .hbm, ⟨7, _⟩ => ⟨S6x256x1x48, .f32⟩
  | .hbm, ⟨8, _⟩ => ⟨S6x256x6144, .f32⟩
  | .hbm, ⟨9, _⟩ => ⟨S6x256x64x96, .f32⟩
  | .hbm, ⟨10, _⟩ => ⟨S6x256x64x48, .f32⟩
  | .hbm, ⟨11, _⟩ => ⟨S6x256x64x48, .f32⟩
  | .hbm, ⟨12, _⟩ => ⟨S6x256x64x48, .f32⟩
  | .hbm, ⟨13, _⟩ => ⟨S6x256x64x48, .f32⟩
  | .hbm, ⟨14, _⟩ => ⟨S6x256x64x48, .f32⟩
  | .hbm, ⟨15, _⟩ => ⟨S6x256x64x48, .f32⟩
  | .hbm, ⟨16, _⟩ => ⟨S6x256x64x48, .f32⟩
  | .hbm, ⟨17, _⟩ => ⟨S6x256x64x48, .f32⟩
  | .hbm, ⟨18, _⟩ => ⟨S6x256x64x48, .f32⟩
  | .hbm, ⟨19, _⟩ => ⟨S6x256x64x48, .f32⟩
  | .hbm, ⟨20, _⟩ => ⟨S6x256x64x48, .f32⟩
  | .hbm, ⟨21, _⟩ => ⟨S6x256x64x48, .f32⟩
  | .hbm, ⟨22, _⟩ => ⟨S6x256x64x96, .f32⟩
  | .hbm, ⟨23, _⟩ => ⟨S6x256x64x96, .f32⟩
  | .hbm, ⟨24, _⟩ => ⟨S_, .f32⟩
  | .hbm, ⟨25, _⟩ => ⟨S6x256x64, .f32⟩
  | .hbm, ⟨26, _⟩ => ⟨S_, .f32⟩
  | .hbm, ⟨27, _⟩ => ⟨S6x256x64, .f32⟩
  | .hbm, ⟨28, _⟩ => ⟨S6x256x64, .i1⟩
  | .hbm, ⟨29, _⟩ => ⟨S1x1x64, .f32⟩
  | .hbm, ⟨30, _⟩ => ⟨S6x256x64, .f32⟩
  | .hbm, ⟨31, _⟩ => ⟨S6x256x64, .f32⟩
  | .hbm, ⟨32, _⟩ => ⟨S_, .f32⟩
  | .hbm, ⟨33, _⟩ => ⟨S6x256x64, .f32⟩
  | .hbm, ⟨34, _⟩ => ⟨S6x256x64, .f32⟩
  | .hbm, ⟨35, _⟩ => ⟨S_, .f32⟩
  | .hbm, ⟨36, _⟩ => ⟨S6x256x64, .f32⟩
  | .hbm, ⟨37, _⟩ => ⟨S6x256x64, .f32⟩
  | .hbm, ⟨38, _⟩ => ⟨S6x256x64x1, .f32⟩
  | .hbm, ⟨39, _⟩ => ⟨S6x256x64x96, .f32⟩
  | .hbm, ⟨40, _⟩ => ⟨S6x256x64x96, .f32⟩
  | .hbm, ⟨41, _⟩ => ⟨S6x256x64x96, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S6x256x64x96, .f32⟩
  | .hbm, ⟨46, _⟩ => ⟨S6x256x64x96, .f32⟩
  | .hbm, ⟨47, _⟩ => ⟨S_, .f32⟩
  | .hbm, ⟨48, _⟩ => ⟨S6x256x64x96, .f32⟩
  | .hbm, ⟨49, _⟩ => ⟨S6x256x64x96, .f32⟩
  | .hbm, ⟨50, _⟩ => ⟨S6x256x64x96, .i8⟩
  | .hbm, ⟨51, _⟩ => ⟨S6x256x64x96, .f32⟩
  | .hbm, ⟨52, _⟩ => ⟨S6x256x64x96, .f32⟩
  | .hbm, ⟨53, _⟩ => ⟨S6x256x64x1, .f32⟩
  | .hbm, ⟨54, _⟩ => ⟨S6x256x64x96, .f32⟩
  | .hbm, ⟨55, _⟩ => ⟨S6x256x64x96, .f32⟩
  | .hbm, ⟨56, _⟩ => ⟨S6x256x64x1, .f32⟩
  | .hbm, ⟨57, _⟩ => ⟨S6x256x64x96, .f32⟩
  | .hbm, ⟨58, _⟩ => ⟨S6x256x64x96, .f32⟩
  | .hbm, ⟨59, _⟩ => ⟨S6x256x64x96, .f32⟩
  | .hbm, ⟨60, _⟩ => ⟨S_, .f32⟩
  | .hbm, ⟨61, _⟩ => ⟨S6x256x64x96, .f32⟩
  | .hbm, ⟨62, _⟩ => ⟨S6x256x64x96, .i1⟩
  | .hbm, ⟨63, _⟩ => ⟨S_, .f32⟩
  | .hbm, ⟨64, _⟩ => ⟨S6x256x64x96, .f32⟩
  | .hbm, ⟨65, _⟩ => ⟨S6x256x64x96, .f32⟩
  | .hbm, ⟨66, _⟩ => ⟨S6x256x64x96, .f32⟩
  | .hbm, ⟨67, _⟩ => ⟨S6x256x64x96, .f32⟩
  | .hbm, ⟨68, _⟩ => ⟨S6x256x64x96, .f32⟩
  | .hbm, ⟨69, _⟩ => ⟨S_, .f32⟩
  | .hbm, ⟨70, _⟩ => ⟨S6x256x64, .f32⟩
  | .hbm, ⟨71, _⟩ => ⟨S_, .f32⟩
  | .hbm, ⟨72, _⟩ => ⟨S6x256x64, .f32⟩
  | .hbm, ⟨73, _⟩ => ⟨S6x256x64, .f32⟩
  | .hbm, ⟨74, _⟩ => ⟨S6x256x64, .f32⟩
  | .hbm, ⟨75, _⟩ => ⟨S_, .f32⟩
  | .hbm, ⟨76, _⟩ => ⟨S64, .f32⟩
  | .hbm, ⟨77, _⟩ => ⟨S6x256x64x48, .f32⟩
  | .hbm, ⟨78, _⟩ => ⟨S6x256x64x48, .f32⟩
  | .hbm, ⟨79, _⟩ => ⟨S6x256x64x48, .f32⟩
  | .hbm, ⟨80, _⟩ => ⟨S6x256x64x48, .f32⟩
  | .hbm, ⟨81, _⟩ => ⟨S6x256x64x48, .f32⟩
  | .hbm, ⟨82, _⟩ => ⟨S6x256x64x48, .f32⟩
  | .hbm, ⟨83, _⟩ => ⟨S6x256x64x48, .f32⟩
  | .hbm, ⟨84, _⟩ => ⟨S6x256x64x48, .f32⟩
  | .hbm, ⟨85, _⟩ => ⟨S6x256x64x48, .f32⟩
  | .hbm, ⟨86, _⟩ => ⟨S6x256x64x48, .f32⟩
  | .hbm, ⟨87, _⟩ => ⟨S6x256x64x48, .f32⟩
  | .hbm, ⟨88, _⟩ => ⟨S6x256x64x48, .f32⟩
  | .hbm, ⟨89, _⟩ => ⟨S6x256x64x96, .f32⟩
  | .hbm, ⟨90, _⟩ => ⟨S6x256x6144, .f32⟩
  | .hbm, ⟨91, _⟩ => ⟨S6x256x6144, .bf16⟩
  | .hbm, ⟨92, _⟩ => ⟨S6x256x64x96, .i32⟩
  | .hbm, ⟨93, _⟩ => ⟨S6x256x64x48, .i32⟩
  | .hbm, ⟨94, _⟩ => ⟨S_, .i32⟩
  | .hbm, ⟨95, _⟩ => ⟨S6x256x64x48, .i32⟩
  | .hbm, ⟨96, _⟩ => ⟨S6x256x64x48, .i32⟩
  | .hbm, ⟨97, _⟩ => ⟨S6x256x64x48, .i32⟩
  | .hbm, ⟨98, _⟩ => ⟨S_, .i32⟩
  | .hbm, ⟨99, _⟩ => ⟨S6x256x64x48, .i32⟩
  | .hbm, ⟨100, _⟩ => ⟨S6x256x64x48, .i32⟩
  | .hbm, ⟨101, _⟩ => ⟨S_, .i32⟩
  | .hbm, ⟨102, _⟩ => ⟨S6x256x64x48, .i32⟩
  | .hbm, ⟨103, _⟩ => ⟨S6x256x64x48, .i32⟩
  | .hbm, ⟨104, _⟩ => ⟨S6x256x64x48, .i32⟩
  | .hbm, ⟨105, _⟩ => ⟨S6x256x64x48, .i8⟩
  | .local _ .vmem, ⟨0, _⟩ => ⟨S6x256x64x96, .f32⟩
  | .local _ .vmem, ⟨1, _⟩ => ⟨S6x256x64x96, .fp8e5m2⟩
  | .local _ .vmem, ⟨2, _⟩ => ⟨S6x256x64x96, .i8⟩
  | .local _ .vmem, ⟨3, _⟩ => ⟨S6x256x64x96, .f32⟩
  | .local _ .vmem, ⟨4, _⟩ => ⟨S6x256x64x96, .f32⟩
  | _, _ => ⟨S6x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_call0_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_cst_5 : Ref sig .tc := ⟨.hbm, 63, rfl⟩
abbrev main_call3_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_9 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_10 : Ref sig .tc := ⟨.hbm, 98, rfl⟩
abbrev main_v71 : Ref sig .tc := ⟨.hbm, 99, rfl⟩
abbrev main_v72 : Ref sig .tc := ⟨.hbm, 100, rfl⟩
abbrev main_c_11 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x64x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x64x96 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x64x96 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x64x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x64x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Cases.lean ====
/- The three kinds of grid points of `Kernel`'s kernel body, where its windows are live, and the names of its staging and
   scratch buffers at a point. Point `t` of the 48 is batch `t / 8` and head group `t % 8`. -/
module

public import proofs.«01_k».proof.Proof.Gen.Kernel.Frame
public import Idealize.ShloMosaic.Lib.Ring

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional (batch 0: the accumulator's rows are set). -/
abbrev condA (i : grid0.Coords) : Prop := k0_cond1 i = 1#1
/-- The second conditional (later batches: the accumulator's rows are added to). -/
abbrev condB (i : grid0.Coords) : Prop := k0_cond2 i = 1#1
/-- The third conditional (the last point: the accumulator is summed over its lanes). -/
abbrev condC (i : grid0.Coords) : Prop := k0_cond3 i = 1#1

theorem hcondA : ∀ t : Fin cfg0.N, condA (grid0.coords t) ↔ t.val < 8 :=
  (by decide +kernel : ∀ t : Fin grid0.N, condA (grid0.coords t) ↔ t.val < 8)
theorem hcondB : ∀ t : Fin cfg0.N, condB (grid0.coords t) ↔ 8 ≤ t.val :=
  (by decide +kernel : ∀ t : Fin grid0.N, condB (grid0.coords t) ↔ 8 ≤ t.val)
theorem hcondC : ∀ t : Fin cfg0.N, condC (grid0.coords t) ↔ t.val = 47 :=
  (by decide +kernel : ∀ t : Fin grid0.N, condC (grid0.coords t) ↔ t.val = 47)

/-- Every window but the 7th is used at every point; the 7th only at the last. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_7 : ∀ t : Fin cfg0.N, t.val = 47 → cfg0.idle 7 (grid0.coords t) = false := by decide +kernel
theorem idle_7 : ∀ t : Fin cfg0.N, t.val ≠ 47 → cfg0.idle 7 (grid0.coords t) = true := by decide +kernel
theorem noFlush_7 : ∀ t : Fin cfg0.N, t.val ≠ 47 → (cfg0.win 7).flush t = false := by decide +kernel

abbrev ms_0 (t : Fin cfg0.N) : Memref sig .tc .vmem S1x256x768 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x48x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x48x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .smem S64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x8x96x256 .fp8e5m2 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x8x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x256x768 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S64x1 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x8x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x8x48x256 .i8 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x8x256 .f32 := win0_10.stage (cfg0.slots t 10)
abbrev hs_10 (t : Fin cfg0.N) : (ms_10 t).IsWhole := hstage0_10 ((cfg0.slots t 10).cast nbuf0_10)
/-- The three scratch buffers: the transposed key block, the transposed derivative block, the accumulator. -/
abbrev scX : Memref sig .tc .vmem S768x256 .f32 := Memref.whole cc0_scratch0
abbrev scD : Memref sig .tc .vmem S768x256 .bf16 := Memref.whole cc0_scratch1
abbrev scA : Memref sig .tc .vmem S64x256 .f32 := Memref.whole cc0_scratch2
theorem hX : (scX).IsWhole := Memref.isWhole_whole _
theorem hD : (scD).IsWhole := Memref.isWhole_whole _
theorem hA : (scA).IsWhole := Memref.isWhole_whole _

/-- The region's invariant with the scratch buffers as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scD fullShare d) ∗ (∃ d, owns (c : Thread nD τ) scA fullShare d)) ∗ (∃ r, prngReg c r)) := by
  unfold Pipeline.ΦA; rw [scopedRest0_eq]; simp only [scX, scD, scA, owns_whole]; try rfl

end Cert.Kernel.Body

end
-- ==== Proof.Kernel.Pieces.lean ====
/- What one run of `Kernel`'s kernel body stores, as functions of its six input blocks and the grid point: per head
   the scale, the token gradient, the packed codes and the two halves of the key gradient, and the lists of pieces
   (a rectangle and its payload, the last store first) these make in each buffer. -/
module

public import proofs.«01_k».proof.Proof.Gen.Kernel.Skeleton
public import Idealize.ShloMosaic.Lib.Pipeline.Value

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32)

/-- The cosines and the sines of the block's batch. -/
def cosB : FVec F S48x256 .f32 := k0_pay9 (View.ld x1 (Rect.unit ![0, 0, 0] S1x48x256.size inb_S1x48x256_S1x48x256_0_0_0))
def sinB : FVec F S48x256 .f32 := k0_pay10 (View.ld x2 (Rect.unit ![0, 0, 0] S1x48x256.size inb_S1x48x256_S1x48x256_0_0_0))

theorem inbK (j : Fin 3) : ∀ a, (![0, 0, 256 * j.val] : Fin 3 → ℕ) a + S1x256x256.size a ≤ S1x256x768.size a := by revert j; decide
theorem inbX (j : Fin 3) : ∀ a, (![256 * j.val, 0] : Fin 2 → ℕ) a + S256x256.size a ≤ S768x256.size a := by revert j; decide
theorem inbA (h : Fin 8) : ∀ a, (![96 * h.val, 0] : Fin 2 → ℕ) a + S48x256.size a ≤ S768x256.size a := by revert h; decide
theorem inbB (h : Fin 8) : ∀ a, (![96 * h.val + 48, 0] : Fin 2 → ℕ) a + S48x256.size a ≤ S768x256.size a := by revert h; decide
theorem inbG (h : Fin 8) : ∀ a, (![0, h.val, 0, 0] : Fin 4 → ℕ) a + S1x1x96x256.size a ≤ S1x8x96x256.size a := by revert h; decide
theorem inbS (h : Fin 8) : ∀ a, (![0, h.val, 0] : Fin 3 → ℕ) a + S1x1x256.size a ≤ S1x8x256.size a := by revert h; decide
theorem inbC (h : Fin 8) : ∀ a, (![0, h.val, 0, 0] : Fin 4 → ℕ) a + S1x1x48x256.size a ≤ S1x8x48x256.size a := by revert h; decide

/-- The transposed key block's columns `256 j … 256 j + 255`, and the pieces of the transposed block. -/
def xPay (j : Fin 3) : FVec F S256x256 .f32 := k0_pay6 (View.ld x0 (Rect.unit ![0, 0, 256 * j.val] S1x256x256.size (inbK j)))
def lstX : List (View.Piece (Elt F) S768x256 .f32) :=
  [⟨Rect.unit ![256 * (2 : Fin 3).val, 0] S256x256.size (inbX 2), xPay x0 2⟩, ⟨Rect.unit ![256 * (1 : Fin 3).val, 0] S256x256.size (inbX 1), xPay x0 1⟩, ⟨Rect.unit ![256 * (0 : Fin 3).val, 0] S256x256.size (inbX 0), xPay x0 0⟩]

/-- Head `h`'s first and second half of the transposed key block. -/
def xA (h : Fin 8) : FVec F S48x256 .f32 := View.ld (View.canon (lstX x0)) (Rect.unit ![96 * h.val, 0] S48x256.size (inbA h))
def xB (h : Fin 8) : FVec F S48x256 .f32 := View.ld (View.canon (lstX x0)) (Rect.unit ![96 * h.val + 48, 0] S48x256.size (inbB h))

/-- Head `h`'s parameter, its cotangent codes and their scales. -/
def alF (h : Fin 8) : Elt F .f32 :=
  View.ld x3 (Rect.unit (s := S64) (k0_off1 i (BitVec.ofNat 32 h.val)) S1.size (k0_off1_inb i h)) (Shape.Idx.first (lt_of_lt_of_eq Nat.one_pos numel1_S1.symm))
def gF (h : Fin 8) : Vec F S1x1x96x256 .fp8e5m2 := View.ld x4 (Rect.unit ![0, h.val, 0, 0] S1x1x96x256.size (inbG h))
def gsF (h : Fin 8) : Vec F S1x1x256 .f32 := View.ld x5 (Rect.unit ![0, h.val, 0] S1x1x256.size (inbS h))

/-- The rotated key of head `h`, its largest magnitude per token, whether that is zero, and the parameter broadcast. -/
def krF (h : Fin 8) : FVec F S96x256 .f32 := k0_pay29 (cosB x1) (sinB x2) (xA x0 h) (xB x0 h)
def amF (h : Fin 8) : FVec F S1x256 .f32 := k0_pay30 (cosB x1) (sinB x2) (xA x0 h) (xB x0 h)
def zF (h : Fin 8) : IVec S1x256 1 := k0_pay31 (cosB x1) (sinB x2) (xA x0 h) (xB x0 h)
def abF (h : Fin 8) : FVec F S1x256 .f32 := k0_pay32 (alF i x3 h)

/-- What is stored for head `h`: the token gradient, the scale, the packed codes, the two halves of the key gradient. -/
def tokP (h : Fin 8) : FVec F S1x1x256 .f32 := k0_pay41 (krF x0 x1 x2 h) (amF x0 x1 x2 h) (zF x0 x1 x2 h) (abF i x3 h) (gF x4 h) (gsF x5 h)
def sP (h : Fin 8) : FVec F S1x1x256 .f32 := k0_pay42 (k0_pay33 (amF x0 x1 x2 h) (zF x0 x1 x2 h) (abF i x3 h))
def codeP (h : Fin 8) : IVec S1x1x48x256 8 := k0_pay47 (k0_pay5 (F := F)) (k0_pay36 (krF x0 x1 x2 h) (amF x0 x1 x2 h) (zF x0 x1 x2 h) (abF i x3 h))
def dAP (h : Fin 8) : FVec F S48x256 .bf16 := k0_pay45 (cosB x1) (sinB x2) (k0_pay39 (krF x0 x1 x2 h) (amF x0 x1 x2 h) (zF x0 x1 x2 h) (abF i x3 h) (gF x4 h)) (k0_pay40 (gsF x5 h))
def dBP (h : Fin 8) : FVec F S48x256 .bf16 := k0_pay46 (cosB x1) (sinB x2) (k0_pay39 (krF x0 x1 x2 h) (amF x0 x1 x2 h) (zF x0 x1 x2 h) (abF i x3 h) (gF x4 h)) (k0_pay40 (gsF x5 h))

/-- The pieces of the token gradient's block, of the scales' and of the codes'. -/
def lst8 : List (View.Piece (Elt F) S1x8x256 .f32) :=
  [⟨Rect.unit ![0, (7 : Fin 8).val, 0] S1x1x256.size (inbS 7), tokP i x0 x1 x2 x3 x4 x5 7⟩, ⟨Rect.unit ![0, (6 : Fin 8).val, 0] S1x1x256.size (inbS 6), tokP i x0 x1 x2 x3 x4 x5 6⟩, ⟨Rect.unit ![0, (5 : Fin 8).val, 0] S1x1x256.size (inbS 5), tokP i x0 x1 x2 x3 x4 x5 5⟩, ⟨Rect.unit ![0, (4 : Fin 8).val, 0] S1x1x256.size (inbS 4), tokP i x0 x1 x2 x3 x4 x5 4⟩, ⟨Rect.unit ![0, (3 : Fin 8).val, 0] S1x1x256.size (inbS 3), tokP i x0 x1 x2 x3 x4 x5 3⟩, ⟨Rect.unit ![0, (2 : Fin 8).val, 0] S1x1x256.size (inbS 2), tokP i x0 x1 x2 x3 x4 x5 2⟩, ⟨Rect.unit ![0, (1 : Fin 8).val, 0] S1x1x256.size (inbS 1), tokP i x0 x1 x2 x3 x4 x5 1⟩, ⟨Rect.unit ![0, (0 : Fin 8).val, 0] S1x1x256.size (inbS 0), tokP i x0 x1 x2 x3 x4 x5 0⟩]
def lst10 : List (View.Piece (Elt F) S1x8x256 .f32) :=
  [⟨Rect.unit ![0, (7 : Fin 8).val, 0] S1x1x256.size (inbS 7), sP i x0 x1 x2 x3 7⟩, ⟨Rect.unit ![0, (6 : Fin 8).val, 0] S1x1x256.size (inbS 6), sP i x0 x1 x2 x3 6⟩, ⟨Rect.unit ![0, (5 : Fin 8).val, 0] S1x1x256.size (inbS 5), sP i x0 x1 x2 x3 5⟩, ⟨Rect.unit ![0, (4 : Fin 8).val, 0] S1x1x256.size (inbS 4), sP i x0 x1 x2 x3 4⟩, ⟨Rect.unit ![0, (3 : Fin 8).val, 0] S1x1x256.size (inbS 3), sP i x0 x1 x2 x3 3⟩, ⟨Rect.unit ![0, (2 : Fin 8).val, 0] S1x1x256.size (inbS 2), sP i x0 x1 x2 x3 2⟩, ⟨Rect.unit ![0, (1 : Fin 8).val, 0] S1x1x256.size (inbS 1), sP i x0 x1 x2 x3 1⟩, ⟨Rect.unit ![0, (0 : Fin 8).val, 0] S1x1x256.size (inbS 0), sP i x0 x1 x2 x3 0⟩]
def lst9 : List (View.Piece (Elt F) S1x8x48x256 .i8) :=
  [⟨Rect.unit ![0, (7 : Fin 8).val, 0, 0] S1x1x48x256.size (inbC 7), codeP i x0 x1 x2 x3 7⟩, ⟨Rect.unit ![0, (6 : Fin 8).val, 0, 0] S1x1x48x256.size (inbC 6), codeP i x0 x1 x2 x3 6⟩, ⟨Rect.unit ![0, (5 : Fin 8).val, 0, 0] S1x1x48x256.size (inbC 5), codeP i x0 x1 x2 x3 5⟩, ⟨Rect.unit ![0, (4 : Fin 8).val, 0, 0] S1x1x48x256.size (inbC 4), codeP i x0 x1 x2 x3 4⟩, ⟨Rect.unit ![0, (3 : Fin 8).val, 0, 0] S1x1x48x256.size (inbC 3), codeP i x0 x1 x2 x3 3⟩, ⟨Rect.unit ![0, (2 : Fin 8).val, 0, 0] S1x1x48x256.size (inbC 2), codeP i x0 x1 x2 x3 2⟩, ⟨Rect.unit ![0, (1 : Fin 8).val, 0, 0] S1x1x48x256.size (inbC 1), codeP i x0 x1 x2 x3 1⟩, ⟨Rect.unit ![0, (0 : Fin 8).val, 0, 0] S1x1x48x256.size (inbC 0), codeP i x0 x1 x2 x3 0⟩]
/-- The pieces of the transposed key gradient, and those of the key gradient's block. -/
def lstD : List (View.Piece (Elt F) S768x256 .bf16) :=
  [⟨Rect.unit ![96 * (7 : Fin 8).val + 48, 0] S48x256.size (inbB 7), dBP i x0 x1 x2 x3 x4 x5 7⟩, ⟨Rect.unit ![96 * (7 : Fin 8).val, 0] S48x256.size (inbA 7), dAP i x0 x1 x2 x3 x4 x5 7⟩, ⟨Rect.unit ![96 * (6 : Fin 8).val + 48, 0] S48x256.size (inbB 6), dBP i x0 x1 x2 x3 x4 x5 6⟩, ⟨Rect.unit ![96 * (6 : Fin 8).val, 0] S48x256.size (inbA 6), dAP i x0 x1 x2 x3 x4 x5 6⟩, ⟨Rect.unit ![96 * (5 : Fin 8).val + 48, 0] S48x256.size (inbB 5), dBP i x0 x1 x2 x3 x4 x5 5⟩, ⟨Rect.unit ![96 * (5 : Fin 8).val, 0] S48x256.size (inbA 5), dAP i x0 x1 x2 x3 x4 x5 5⟩, ⟨Rect.unit ![96 * (4 : Fin 8).val + 48, 0] S48x256.size (inbB 4), dBP i x0 x1 x2 x3 x4 x5 4⟩, ⟨Rect.unit ![96 * (4 : Fin 8).val, 0] S48x256.size (inbA 4), dAP i x0 x1 x2 x3 x4 x5 4⟩, ⟨Rect.unit ![96 * (3 : Fin 8).val + 48, 0] S48x256.size (inbB 3), dBP i x0 x1 x2 x3 x4 x5 3⟩, ⟨Rect.unit ![96 * (3 : Fin 8).val, 0] S48x256.size (inbA 3), dAP i x0 x1 x2 x3 x4 x5 3⟩, ⟨Rect.unit ![96 * (2 : Fin 8).val + 48, 0] S48x256.size (inbB 2), dBP i x0 x1 x2 x3 x4 x5 2⟩, ⟨Rect.unit ![96 * (2 : Fin 8).val, 0] S48x256.size (inbA 2), dAP i x0 x1 x2 x3 x4 x5 2⟩, ⟨Rect.unit ![96 * (1 : Fin 8).val + 48, 0] S48x256.size (inbB 1), dBP i x0 x1 x2 x3 x4 x5 1⟩, ⟨Rect.unit ![96 * (1 : Fin 8).val, 0] S48x256.size (inbA 1), dAP i x0 x1 x2 x3 x4 x5 1⟩, ⟨Rect.unit ![96 * (0 : Fin 8).val + 48, 0] S48x256.size (inbB 0), dBP i x0 x1 x2 x3 x4 x5 0⟩, ⟨Rect.unit ![96 * (0 : Fin 8).val, 0] S48x256.size (inbA 0), dAP i x0 x1 x2 x3 x4 x5 0⟩]
def dkP (j : Fin 3) : FVec F S1x256x256 .bf16 :=
  k0_pay161 (k0_pay4 (F := F)) (View.ld (View.canon (lstD i x0 x1 x2 x3 x4 x5)) (Rect.unit ![256 * j.val, 0] S256x256.size (inbX j)))
def lst6 : List (View.Piece (Elt F) S1x256x768 .bf16) :=
  [⟨Rect.unit ![0, 0, 256 * (2 : Fin 3).val] S1x256x256.size (inbK 2), dkP i x0 x1 x2 x3 x4 x5 2⟩, ⟨Rect.unit ![0, 0, 256 * (1 : Fin 3).val] S1x256x256.size (inbK 1), dkP i x0 x1 x2 x3 x4 x5 1⟩, ⟨Rect.unit ![0, 0, 256 * (0 : Fin 3).val] S1x256x256.size (inbK 0), dkP i x0 x1 x2 x3 x4 x5 0⟩]

/-- What is left in each output block: the key gradient, the token gradient, the codes, the scales. -/
def blk6 : Vec F S1x256x768 .bf16 := View.canon (lst6 i x0 x1 x2 x3 x4 x5)
def blk8 : Vec F S1x8x256 .f32 := View.canon (lst8 i x0 x1 x2 x3 x4 x5)
def blk9 : Vec F S1x8x48x256 .i8 := View.canon (lst9 i x0 x1 x2 x3)
def blk10 : Vec F S1x8x256 .f32 := View.canon (lst10 i x0 x1 x2 x3)

/-- The token gradient's block as the accumulator reads it. -/
def partF : FVec F S8x256 .f32 :=
  k0_pay164 (View.ld (View.canon (lst8 i x0 x1 x2 x3 x4 x5)) (Rect.unit ![0, 0, 0] S1x8x256.size inb_S1x8x256_S1x8x256_0_0_0))

end Cert.Kernel.Body

end
-- ==== Proof.Kernel.Acc.lean ====
/- The accumulator of `Kernel`'s kernel body. Row block `g` (8 rows) holds the sum over the batches done so far of head group
   `g`'s token gradients; a point adds its block to one row block and leaves the others. -/
module

public import proofs.«01_k».proof.Proof.Kernel.Cases
public import proofs.«01_k».proof.Proof.Kernel.Pieces
public import Idealize.ShloMosaic.Lib.WritesUnit

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- The token gradients of point `t`. -/
def partT (t : Fin cfg0.N) : FVec F S8x256 .f32 := partF (grid0.coords t) (iblk m c 0 t) (iblk m c 1 t) (iblk m c 2 t) (iblk m c 3 t) (iblk m c 4 t) (iblk m c 5 t)

/-- Position `n` as a point. -/
def pt (n : ℕ) : Fin cfg0.N := ⟨n % 48, lt_of_lt_of_eq (Nat.mod_lt n (by decide)) (show 48 = cfg0.N from N_0.symm)⟩

theorem lt48 (t : Fin cfg0.N) : t.val < 48 := lt_of_lt_of_eq t.isLt (show cfg0.N = 48 from N_0)
theorem pt_val (t : Fin cfg0.N) : pt t.val = t := Fin.ext (Nat.mod_eq_of_lt (lt48 t))

/-- Row block `g` after batch `b`. -/
def accG (g : Fin 8) : ℕ → FVec F S8x256 .f32
  | 0 => k0_pay1 (partT m c (pt g.val))
  | b + 1 => k0_pay2 (partT m c (pt (8 * (b + 1) + g.val))) (accG g b)

theorem inbAcc (g : Fin 8) : ∀ a, (![8 * g.val, 0] : Fin 2 → ℕ) a + S8x256.size a ≤ S64x256.size a := by revert g; decide
/-- The place of a row block's element in the accumulator. -/
def rowAt (g : Fin 8) (j : S8x256.Idx) : S64x256.Idx := (Rect.unit (s := S64x256) ![8 * g.val, 0] S8x256.size (inbAcc g)).emb j
theorem rowAt_0 (g : Fin 8) (j : S8x256.Idx) : (rowAt g j 0).val = 8 * g.val + (j 0).val := by
  show 8 * g.val + 1 * (j 0).val = _; omega
theorem rowAt_1 (g : Fin 8) (j : S8x256.Idx) : (rowAt g j 1).val = (j 1).val := by
  show 0 + 1 * (j 1).val = _; omega

/-- What the accumulator holds before position `n`: each row block a point before `n` has written holds what the last such
    point left. -/
def Inv (n : ℕ) (f : Vec F S64x256 .f32) : Prop :=
  ∀ (g : Fin 8) (b : ℕ), 8 * b + g.val < n → n ≤ 8 * b + g.val + 8 → ∀ j : S8x256.Idx, f (rowAt g j) = accG m c g b j

theorem inv_zero (f : Vec F S64x256 .f32) : Inv m c 0 f := fun _ _ h => absurd h (Nat.not_lt_zero _)

theorem coord1 : ∀ t : Fin cfg0.N, ((grid0.coords t) 1).val = t.val % 8 := (by decide +kernel : ∀ t : Fin grid0.N, ((grid0.coords t) 1).val = t.val % 8)

/-- One store of a row block: the other row blocks keep what they held. -/
theorem read_other (f : Vec F S64x256 .f32) (off : Fin 2 → ℕ) (inb : ∀ a, off a + S8x256.size a ≤ S64x256.size a) (w : Vec F S8x256 .f32) (o : ℕ) (hoff : off = ![8 * o, 0])
    (g : Fin 8) (j : S8x256.Idx) (h : g.val ≠ o) :
    scA.view.read (Elt F) (scA.view.writes (Elt F) ((hA).unread f) [⟨Rect.unit (s := S64x256) off S8x256.size inb, w⟩]) (rowAt g j) = f (rowAt g j) := by
  have hj : (j 0).val < 8 := (j 0).isLt
  rw [View.read_writes_cons_rows_of_not_mem (o := 8 * o) (W := 8) scA.view _ inb w [] (rowAt g j) hoff rfl (by rw [rowAt_0]; omega), View.writes_nil]
  rw [(hA).read_unread]

/-- One store of a row block: it reads back. -/
theorem read_same (f : Vec F S64x256 .f32) (off : Fin 2 → ℕ) (inb : ∀ a, off a + S8x256.size a ≤ S64x256.size a) (w : Vec F S8x256 .f32)
    (g : Fin 8) (hoff : off = ![8 * g.val, 0]) (j : S8x256.Idx) :
    scA.view.read (Elt F) (scA.view.writes (Elt F) ((hA).unread f) [⟨Rect.unit (s := S64x256) off S8x256.size inb, w⟩]) (rowAt g j) = w j :=
  View.read_writes_cons_rows_of_mem scA.view _ inb w [] (rowAt g j) j hoff (rowAt_0 g j) (rowAt_1 g j)

/-- A load of a row block. -/
theorem ld_row (f : Vec F S64x256 .f32) (off : Fin 2 → ℕ) (inb : ∀ a, off a + S8x256.size a ≤ S64x256.size a)
    (g : Fin 8) (hoff : off = ![8 * g.val, 0]) :
    View.ld f (Rect.unit (s := S64x256) off S8x256.size inb) = fun j => f (rowAt g j) := by
  subst hoff; rfl

/-- A point of batch 0 sets its row block. -/
theorem inv_set (t : Fin cfg0.N) (h : t.val < 8) (f : Vec F S64x256 .f32) (hf : Inv m c t.val f) (inb) :
    Inv m c (t.val + 1) (scA.view.read (Elt F) (scA.view.writes (Elt F) ((hA).unread f)
      [⟨Rect.unit (s := S64x256) (k0_off2 (grid0.coords t)) S8x256.size inb, k0_pay1 (partT m c t)⟩])) := by
  intro g b h1 h2 j
  have ho : k0_off2 (grid0.coords t) = ![8 * (t.val % 8), 0] := by rw [k0_off2_eq, coord1]
  by_cases hg : g.val = t.val % 8
  · have hb : b = 0 := by omega
    subst hb
    rw [read_same _ _ inb _ g (by rw [ho, hg])]
    have : pt g.val = t := by rw [← pt_val t]; congr 1; omega
    show _ = k0_pay1 (partT m c (pt g.val)) j
    rw [this]
  · rw [read_other _ _ inb _ _ ho g j hg]
    exact hf g b (by omega) (by omega) j

/-- A point of a later batch adds to its row block. -/
theorem inv_add (t : Fin cfg0.N) (h : 8 ≤ t.val) (f : Vec F S64x256 .f32) (hf : Inv m c t.val f) (inb inb') :
    Inv m c (t.val + 1) (scA.view.read (Elt F) (scA.view.writes (Elt F) ((hA).unread f)
      [⟨Rect.unit (s := S64x256) (k0_off3 (grid0.coords t)) S8x256.size inb,
        k0_pay2 (partT m c t) (View.ld f (Rect.unit (s := S64x256) (k0_off3 (grid0.coords t)) S8x256.size inb'))⟩])) := by
  intro g b h1 h2 j
  have ho : k0_off3 (grid0.coords t) = ![8 * (t.val % 8), 0] := by rw [k0_off3_eq, coord1]
  by_cases hg : g.val = t.val % 8
  · obtain ⟨b, rfl⟩ : ∃ b', b = b' + 1 := ⟨b - 1, by omega⟩
    rw [read_same _ _ inb _ g (by rw [ho, hg])]
    have : pt (8 * (b + 1) + g.val) = t := by rw [← pt_val t]; congr 1; omega
    show _ = k0_pay2 (partT m c (pt (8 * (b + 1) + g.val))) (accG m c g b) j
    rw [this, ld_row _ _ inb' g (by rw [ho, hg])]
    rw [show (fun j => f (rowAt g j)) = accG m c g b from funext fun j => hf g b (by omega) (by omega) j]
  · rw [read_other _ _ inb _ _ ho g j hg]
    exact hf g b (by omega) (by omega) j

/-- The accumulator after the last point. -/
def accFin : Vec F S64x256 .f32 := fun y =>
  accG m c ⟨(y 0).val / 8, by have : (y 0).val < 64 := (y 0).isLt; omega⟩ 5
    ((fun a => match a with | ⟨0, _⟩ => ⟨(y 0).val % 8, Nat.mod_lt _ (by decide)⟩ | ⟨1, _⟩ => ⟨(y 1).val, (y 1).isLt⟩) : S8x256.Idx)

theorem inv_last (f : Vec F S64x256 .f32) (hf : Inv m c 48 f) : f = accFin m c := by
  funext y
  have hy : (y 0).val < 64 := (y 0).isLt
  have := hf ⟨(y 0).val / 8, by omega⟩ 5 (by show 8 * 5 + (y 0).val / 8 < 48; omega) (by show 48 ≤ 8 * 5 + (y 0).val / 8 + 8; omega)
    ((fun a => match a with | ⟨0, _⟩ => ⟨(y 0).val % 8, Nat.mod_lt _ (by decide)⟩ | ⟨1, _⟩ => ⟨(y 1).val, (y 1).isLt⟩) : S8x256.Idx)
  rw [show accFin m c y = _ from rfl, accFin, ← this]
  congr 1
  funext a
  apply Fin.ext
  match a with
  | ⟨0, _⟩ => refine Eq.trans ?_ (rowAt_0 _ _).symm; show (y 0).val = 8 * ((y 0).val / 8) + (y 0).val % 8; omega
  | ⟨1, _⟩ => exact (rowAt_1 (⟨(y 0).val / 8, by omega⟩ : Fin 8) ((fun a => match a with | ⟨0, _⟩ => ⟨(y 0).val % 8, Nat.mod_lt _ (by decide)⟩ | ⟨1, _⟩ => ⟨(y 1).val, (y 1).isLt⟩) : S8x256.Idx)).symm

end Cert.Kernel.Body

end
-- ==== Proof.Kernel.RunA.lean ====
/- The run of `Kernel`'s kernel body at a point of case A (batch 0): which pieces its stores leave in each buffer.  -/
module

public import proofs.«01_k».proof.Proof.Gen.Kernel.Skeleton
public import proofs.«01_k».proof.Proof.Kernel.Cases

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The pieces the body's stores leave in each output's and scratch's buffer (the last store first) in case A, with the proof that
    on whole buffers — the inputs at `x0 … x5`, the accumulator at `xs`, the 7th output at `xi7`, handed back untouched — the body runs and leaves the
    inputs as they were and each buffer with its pieces written. -/
noncomputable def runA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (xi7 : Vec F S64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun xi7 E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.Kernel.Body

end
-- ==== Proof.Kernel.RunB.lean ====
/- The run of `Kernel`'s kernel body at a point of case B (a later batch, not the last point): which pieces its stores leave in each buffer.  -/
module

public import proofs.«01_k».proof.Proof.Kernel.RunA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The pieces the body's stores leave in each output's and scratch's buffer (the last store first) in case B, with the proof that
    on whole buffers — the inputs at `x0 … x5`, the accumulator at `xs`, the 7th output at `xi7`, handed back untouched — the body runs and leaves the
    inputs as they were and each buffer with its pieces written. -/
noncomputable def runB (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (xi7 : Vec F S64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun xi7 E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.Kernel.Body

end
-- ==== Proof.Kernel.RunC.lean ====
/- The run of `Kernel`'s kernel body at a point of case C (the last point): which pieces its stores leave in each buffer.  -/
module

public import proofs.«01_k».proof.Proof.Kernel.RunB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3000000 in
/-- The pieces the body's stores leave in each output's and scratch's buffer (the last store first) in case C, with the proof that
    on whole buffers — the inputs at `x0 … x5`, the accumulator at `xs` — the body runs and leaves the
    inputs as they were and each buffer with its pieces written. -/
noncomputable def runC (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L7 : List (View.Piece (Elt F) S64x1 .f32)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.Kernel.Body

end
-- ==== Proof.Kernel.EqA.lean ====
/- The pieces the run of `Kernel`'s kernel body at a point of case A leaves are those of the module `Pieces`. -/
module

public import proofs.«01_k».proof.Proof.Kernel.RunA
public import proofs.«01_k».proof.Proof.Kernel.Pieces

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the key gradient block. -/
theorem runA_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runA_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = lst8 i x0 x1 x2 x3 x4 x5 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runA_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst9 i x0 x1 x2 x3 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runA_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst10 i x0 x1 x2 x3 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runA_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = [⟨Rect.unit (s := S64x256) (k0_off2 i) S8x256.size (k0_off2_inb i hc0), k0_pay1 (partF i x0 x1 x2 x3 x4 x5)⟩] := by
  unfold runA; dsimp only; sl_unfold_words
  simp only [View.readAt_eq_ld, View.readCov_eq_canon', harg2.read_unread, harg3.read_unread, harg4.read_unread, harg5.read_unread, harg6.read_unread, harg7.read_unread, harg15.read_unread]
  rfl

end Cert.Kernel.Body

end
-- ==== Proof.Kernel.EqB.lean ====
/- The pieces the run of `Kernel`'s kernel body at a point of case B leaves are those of the module `Pieces`. -/
module

public import proofs.«01_k».proof.Proof.Kernel.RunB
public import proofs.«01_k».proof.Proof.Kernel.Pieces
public import proofs.«01_k».proof.Proof.Kernel.EqA

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the key gradient block. -/
theorem runB_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runB_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = lst8 i x0 x1 x2 x3 x4 x5 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runB_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst9 i x0 x1 x2 x3 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runB_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst10 i x0 x1 x2 x3 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runB_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩] := by
  unfold runB; dsimp only; sl_unfold_words
  simp only [View.readAt_eq_ld, View.readCov_eq_canon', harg2.read_unread, harg3.read_unread, harg4.read_unread, harg5.read_unread, harg6.read_unread, harg7.read_unread, harg15.read_unread]
  rfl

end Cert.Kernel.Body

end
-- ==== Proof.Kernel.EqC.lean ====
/- The pieces the run of `Kernel`'s kernel body at a point of case C leaves are those of the module `Pieces`. -/
module

public import proofs.«01_k».proof.Proof.Kernel.RunC
public import proofs.«01_k».proof.Proof.Kernel.Pieces
public import proofs.«01_k».proof.Proof.Kernel.EqB

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces of the key gradient block. -/
theorem runC_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the parameter gradient. -/
theorem runC_L7 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = [⟨Rect.unit ![0, 0] S64x1.size inb_S64x1_S64x1_0_0, k0_pay3 (View.ld (arg15.view.read (Elt F) (arg15.view.writes (Elt F) (harg15.unread xs) [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩])) (Rect.unit ![0, 0] S64x256.size inb_S64x256_S64x256_0_0))⟩] := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runC_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst8 i x0 x1 x2 x3 x4 x5 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runC_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst9 i x0 x1 x2 x3 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runC_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = lst10 i x0 x1 x2 x3 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runC_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.2.1 = [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩] := by
  unfold runC; dsimp only; sl_unfold_words
  simp only [View.readAt_eq_ld, View.readCov_eq_canon', harg2.read_unread, harg3.read_unread, harg4.read_unread, harg5.read_unread, harg6.read_unread, harg7.read_unread, harg15.read_unread]
  rfl

end Cert.Kernel.Body

end
-- ==== Proof.Kernel.Frame.lean ====
/- The frame of `Kernel`: every run of the program ends, leaves its argument arrays as they were and its semaphores at zero, and
   leaves in its result arrays what the points' blocks make. -/
module

public import proofs.«01_k».proof.Proof.Kernel.Acc
public import proofs.«01_k».proof.Proof.Kernel.EqC
public import Idealize.ShloMosaic.Lib.Claim

@[expose] public section

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before position `n`: the transposes' scratch at anything, the accumulator at contents `Inv` tells. -/
def PhiS (c : Dev nD) (n : ℕ) : sProp 𝕄 :=
  iprop(iprop((∃ d, owns (c : Thread nD τ) scX fullShare d) ∗ (∃ d, owns (c : Thread nD τ) scD fullShare d)
    ∗ (∃ f, ⌜Inv m c n f⌝ ∗ owns (c : Thread nD τ) scA fullShare f)) ∗ (∃ r, prngReg c r))

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blk6 (grid0.coords t) (iblk m c 0 t) (iblk m c 1 t) (iblk m c 2 t) (iblk m c 3 t) (iblk m c 4 t) (iblk m c 5 t)
    | ⟨7, _⟩ => k0_pay3 (accFin m c)
    | ⟨8, _⟩ => blk8 (grid0.coords t) (iblk m c 0 t) (iblk m c 1 t) (iblk m c 2 t) (iblk m c 3 t) (iblk m c 4 t) (iblk m c 5 t)
    | ⟨9, _⟩ => blk9 (grid0.coords t) (iblk m c 0 t) (iblk m c 1 t) (iblk m c 2 t) (iblk m c 3 t)
    | ⟨10, _⟩ => blk10 (grid0.coords t) (iblk m c 0 t) (iblk m c 1 t) (iblk m c 2 t) (iblk m c 3 t)
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blk6 (grid0.coords t) (iblk m c 0 t) (iblk m c 1 t) (iblk m c 2 t) (iblk m c 3 t) (iblk m c 4 t) (iblk m c 5 t) := by dsimp only [dats]
theorem after_7 (c : Dev nD) (t : Fin cfg0.N) : (dats m 0 c).after 7 t = k0_pay3 (accFin m c) := by dsimp only [dats]
theorem after_8 (c : Dev nD) (t : Fin cfg0.N) : (dats m 0 c).after 8 t = blk8 (grid0.coords t) (iblk m c 0 t) (iblk m c 1 t) (iblk m c 2 t) (iblk m c 3 t) (iblk m c 4 t) (iblk m c 5 t) := by dsimp only [dats]
theorem after_9 (c : Dev nD) (t : Fin cfg0.N) : (dats m 0 c).after 9 t = blk9 (grid0.coords t) (iblk m c 0 t) (iblk m c 1 t) (iblk m c 2 t) (iblk m c 3 t) := by dsimp only [dats]
theorem after_10 (c : Dev nD) (t : Fin cfg0.N) : (dats m 0 c).after 10 t = blk10 (grid0.coords t) (iblk m c 0 t) (iblk m c 1 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The pieces of output 6's block cover it. -/
theorem cover_6 (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32) : ∀ y, ∃ p ∈ lst6 i x0 x1 x2 x3 x4 x5, y ∈ p.1.set := fun y =>
  View.cover_of_tiledL (lst6 i x0 x1 x2 x3 x4 x5) S1x256x256.size (by sl_kernel_rfl) y

/-- The pieces of output 8's block cover it. -/
theorem cover_8 (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32) : ∀ y, ∃ p ∈ lst8 i x0 x1 x2 x3 x4 x5, y ∈ p.1.set := fun y =>
  View.cover_of_tiledL (lst8 i x0 x1 x2 x3 x4 x5) S1x1x256.size (by sl_kernel_rfl) y

/-- The pieces of output 9's block cover it. -/
theorem cover_9 (i : grid0.Coords) (x0 : Vec F S1x256x768 .bf16) (x1 : Vec F S1x48x256 .f32) (x2 : Vec F S1x48x256 .f32) (x3 : Vec F S64 .f32) : ∀ y, ∃ p ∈ lst9 i x0 x1 x2 x3, y ∈ p.1.set := fun y =>
  View.cover_of_tiledL (lst9 i x0 x1 x2 x3) S1x1x48x256.size (by sl_kernel_rfl) y

/-- The pieces of output 10's block cover it. -/
theorem cover_10 (i : grid0.Coords) (x0 : Vec F S1x256x768 .bf16) (x1 : Vec F S1x48x256 .f32) (x2 : Vec F S1x48x256 .f32) (x3 : Vec F S64 .f32) : ∀ y, ∃ p ∈ lst10 i x0 x1 x2 x3, y ∈ p.1.set := fun y =>
  View.cover_of_tiledL (lst10 i x0 x1 x2 x3) S1x1x256.size (by sl_kernel_rfl) y

theorem cover_7 (w : Vec F S64x1 .f32) : ∀ y, ∃ p ∈ ([⟨Rect.unit ![0,0] S64x1.size inb_S64x1_S64x1_0_0, w⟩] : List (View.Piece (Elt F) S64x1 .f32)), y ∈ p.1.set := fun y =>
  ⟨_, List.mem_singleton_self _, View.mem_set_unit_zero (S := S64x1) (by decide) inb_S64x1_S64x1_0_0 y⟩

/-- What the body is called with at a point, and what it returns, window by window. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (ms_0 t) fullShare ((dats m 0 c).after 0 t) := by
  unfold Dat.leavesExact; rw [live_0 t]
theorem leaves_1 (c : Dev nD) (t : Fin cfg0.N) : (dats m 0 c).leavesExact 1 t = owns (c : Thread nD τ) (ms_1 t) fullShare ((dats m 0 c).after 1 t) := by
  unfold Dat.leavesExact; rw [live_1 t]
theorem leaves_2 (c : Dev nD) (t : Fin cfg0.N) : (dats m 0 c).leavesExact 2 t = owns (c : Thread nD τ) (ms_2 t) fullShare ((dats m 0 c).after 2 t) := by
  unfold Dat.leavesExact; rw [live_2 t]
theorem leaves_3 (c : Dev nD) (t : Fin cfg0.N) : (dats m 0 c).leavesExact 3 t = owns (c : Thread nD τ) (ms_3 t) fullShare ((dats m 0 c).after 3 t) := by
  unfold Dat.leavesExact; rw [live_3 t]
theorem leaves_4 (c : Dev nD) (t : Fin cfg0.N) : (dats m 0 c).leavesExact 4 t = owns (c : Thread nD τ) (ms_4 t) fullShare ((dats m 0 c).after 4 t) := by
  unfold Dat.leavesExact; rw [live_4 t]
theorem leaves_5 (c : Dev nD) (t : Fin cfg0.N) : (dats m 0 c).leavesExact 5 t = owns (c : Thread nD τ) (ms_5 t) fullShare ((dats m 0 c).after 5 t) := by
  unfold Dat.leavesExact; rw [live_5 t]
theorem leaves_6 (c : Dev nD) (t : Fin cfg0.N) : (dats m 0 c).leavesExact 6 t = owns (c : Thread nD τ) (ms_6 t) fullShare ((dats m 0 c).after 6 t) := by
  unfold Dat.leavesExact; rw [live_6 t]
theorem leaves_8 (c : Dev nD) (t : Fin cfg0.N) : (dats m 0 c).leavesExact 8 t = owns (c : Thread nD τ) (ms_8 t) fullShare ((dats m 0 c).after 8 t) := by
  unfold Dat.leavesExact; rw [live_8 t]
theorem leaves_9 (c : Dev nD) (t : Fin cfg0.N) : (dats m 0 c).leavesExact 9 t = owns (c : Thread nD τ) (ms_9 t) fullShare ((dats m 0 c).after 9 t) := by
  unfold Dat.leavesExact; rw [live_9 t]
theorem leaves_10 (c : Dev nD) (t : Fin cfg0.N) : (dats m 0 c).leavesExact 10 t = owns (c : Thread nD τ) (ms_10 t) fullShare ((dats m 0 c).after 10 t) := by
  unfold Dat.leavesExact; rw [live_10 t]
theorem leaves_7 (c : Dev nD) (t : Fin cfg0.N) (h : t.val = 47) : (dats m 0 c).leavesExact 7 t = owns (c : Thread nD τ) (ms_7 t) fullShare ((dats m 0 c).after 7 t) := by
  unfold Dat.leavesExact; rw [live_7 t h]

set_option maxHeartbeats 14400000 in
/-- The body at any point: from the windows' buffers and the invariant it runs, and leaves them as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, Phi_castSucc]
  have hN : t.val < 48 := lt48 t
  rw [leaves_0, leaves_1, leaves_2, leaves_3, leaves_4, leaves_5, leaves_6, leaves_8, leaves_9, leaves_10]
  simp only [after_0, after_1, after_2, after_3, after_4, after_5, after_6, after_8, after_9, after_10]
  unfold PhiS
  by_cases h0 : t.val < 8
  · rw [Dat.leavesExact_idle (dats m 0 c) 7 t (idle_7 t (by omega)) (noFlush_7 t (by omega))]
    iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ ((hcondA t).mpr h0) (fun h => absurd ((hcondB t).mp h) (by omega)) (fun h => absurd ((hcondC t).mp h) (by omega)) (iblk m c 0 t) (iblk m c 1 t) (iblk m c 2 t) (iblk m c 3 t) (iblk m c 4 t) (iblk m c 5 t) fa).2.2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, ⟨%e6, H6⟩, H7, ⟨%e8, H8⟩, ⟨%e9, H9⟩, ⟨%e10, H10⟩, ⟨%fT0, HS0⟩, ⟨%fT1, HS1⟩, HS2⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; isplitr
        swap
        · unfold owns; iexists _; isplitr
          swap; · iexact HS2
          ipureintro; rfl
        ipureintro; rw [runA_LA]; exact inv_set m c t h0 fa hfa _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [View.read_writes_eq_canon _ _ _ (by rw [runA_L6]; exact cover_6 _ _ _ _ _ _ _ ), runA_L6]; rfl
    isplitl [H7]; · iexists _; iexact H7
    isplitl [H8]
    · unfold owns; iexists _; isplitr
      swap; · iexact H8
      ipureintro; rw [View.read_writes_eq_canon _ _ _ (by rw [runA_L8]; exact cover_8 _ _ _ _ _ _ _ ), runA_L8]; rfl
    isplitl [H9]
    · unfold owns; iexists _; isplitr
      swap; · iexact H9
      ipureintro; rw [View.read_writes_eq_canon _ _ _ (by rw [runA_L9]; exact cover_9 _ _ _ _ _ ), runA_L9]; rfl
    unfold owns; iexists _; isplitr
    swap; · iexact H10
    ipureintro; rw [View.read_writes_eq_canon _ _ _ (by rw [runA_L10]; exact cover_10 _ _ _ _ _ ), runA_L10]; rfl
  · by_cases h2 : t.val = 47
    · rw [leaves_7 m c t h2, after_7]
      iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ _ _ _ _ (fun h => absurd ((hcondA t).mp h) (by omega)) ((hcondB t).mpr (by omega)) ((hcondC t).mpr h2) (iblk m c 0 t) (iblk m c 1 t) (iblk m c 2 t) (iblk m c 3 t) (iblk m c 4 t) (iblk m c 5 t) fa).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%e9, H9⟩, ⟨%e10, H10⟩, ⟨%fT0, HS0⟩, ⟨%fT1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; isplitr
          swap
          · unfold owns; iexists _; isplitr
            swap; · iexact HS2
            ipureintro; rfl
          ipureintro; rw [runC_LA]; exact inv_add m c t (by omega) fa hfa _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; rw [View.read_writes_eq_canon _ _ _ (by rw [runC_L6]; exact cover_6 _ _ _ _ _ _ _ ), runC_L6]; rfl
      isplitl [H7]
      · unfold owns; iexists _; isplitr
        swap; · iexact H7
        ipureintro; rw [View.read_writes_eq_canon _ _ _ (by rw [runC_L7]; exact cover_7 _), runC_L7, View.canon_unit_zero (by decide), View.ld_unit_zero (by decide)]
        congr 1
        refine inv_last m c _ ?_
        have := inv_add m c t (by omega) fa hfa (k0_off3_inb (grid0.coords t) ((hcondB t).mpr (by omega))) (k0_off3_inb (grid0.coords t) ((hcondB t).mpr (by omega)))
        exact Eq.mp (congrArg (fun n => Inv m c n _) (show t.val + 1 = 48 by omega)) this
      isplitl [H8]
      · unfold owns; iexists _; isplitr
        swap; · iexact H8
        ipureintro; rw [View.read_writes_eq_canon _ _ _ (by rw [runC_L8]; exact cover_8 _ _ _ _ _ _ _ ), runC_L8]; rfl
      isplitl [H9]
      · unfold owns; iexists _; isplitr
        swap; · iexact H9
        ipureintro; rw [View.read_writes_eq_canon _ _ _ (by rw [runC_L9]; exact cover_9 _ _ _ _ _ ), runC_L9]; rfl
      unfold owns; iexists _; isplitr
      swap; · iexact H10
      ipureintro; rw [View.read_writes_eq_canon _ _ _ (by rw [runC_L10]; exact cover_10 _ _ _ _ _ ), runC_L10]; rfl
    · rw [Dat.leavesExact_idle (dats m 0 c) 7 t (idle_7 t (by omega)) (noFlush_7 t (by omega))]
      iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ _ _ _ _ (fun h => absurd ((hcondA t).mp h) (by omega)) ((hcondB t).mpr (by omega)) (fun h => absurd ((hcondC t).mp h) (by omega)) (iblk m c 0 t) (iblk m c 1 t) (iblk m c 2 t) (iblk m c 3 t) (iblk m c 4 t) (iblk m c 5 t) fa).2.2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, ⟨%e6, H6⟩, H7, ⟨%e8, H8⟩, ⟨%e9, H9⟩, ⟨%e10, H10⟩, ⟨%fT0, HS0⟩, ⟨%fT1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; isplitr
          swap
          · unfold owns; iexists _; isplitr
            swap; · iexact HS2
            ipureintro; rfl
          ipureintro; rw [runB_LA]; exact inv_add m c t (by omega) fa hfa _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; rw [View.read_writes_eq_canon _ _ _ (by rw [runB_L6]; exact cover_6 _ _ _ _ _ _ _ ), runB_L6]; rfl
      isplitl [H7]; · iexists _; iexact H7
      isplitl [H8]
      · unfold owns; iexists _; isplitr
        swap; · iexact H8
        ipureintro; rw [View.read_writes_eq_canon _ _ _ (by rw [runB_L8]; exact cover_8 _ _ _ _ _ _ _ ), runB_L8]; rfl
      isplitl [H9]
      · unfold owns; iexists _; isplitr
        swap; · iexact H9
        ipureintro; rw [View.read_writes_eq_canon _ _ _ (by rw [runB_L9]; exact cover_9 _ _ _ _ _ ), runB_L9]; rfl
      unfold owns; iexists _; isplitr
      swap; · iexact H10
      ipureintro; rw [View.read_writes_eq_canon _ _ _ (by rw [runB_L10]; exact cover_10 _ _ _ _ _ ), runB_L10]; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, and the invariant after the last gives it back. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, ⟨%f, HS2⟩⟩, Hg⟩
  isplitl [HS0 HS1 HS2]
  · isplitl [HS0]
    · iexact HS0
    isplitl [HS1]
    · iexact HS1
    iexists f; isplitr
    · ipureintro; exact inv_zero m c f
    iexact HS2
  iexact Hg
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨HS0, HS1, ⟨%f, -, HS2⟩⟩, Hg⟩
  isplitl [HS0 HS1 HS2]
  · isplitl [HS0]
    · iexact HS0
    isplitl [HS1]
    · iexact HS1
    iexists _; iexact HS2
  iexact Hg

set_option backward.isDefEq.respectTransparency.types false in
set_option maxHeartbeats 800000 in
/-- Every run ends with the arrays as the proof data say and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.KernelIdeal.Cases.lean ====
/- The three kinds of grid points of `KernelIdeal`'s kernel body, where its windows are live, and the names of its staging and
   scratch buffers at a point. Point `t` of the 48 is batch `t / 8` and head group `t % 8`. -/
module

public import proofs.«01_k».proof.Proof.Gen.KernelIdeal.Frame
public import Idealize.ShloMosaic.Lib.Ring

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional (batch 0: the accumulator's rows are set). -/
abbrev condA (i : grid0.Coords) : Prop := k0_cond1 i = 1#1
/-- The second conditional (later batches: the accumulator's rows are added to). -/
abbrev condB (i : grid0.Coords) : Prop := k0_cond2 i = 1#1
/-- The third conditional (the last point: the accumulator is summed over its lanes). -/
abbrev condC (i : grid0.Coords) : Prop := k0_cond3 i = 1#1

theorem hcondA : ∀ t : Fin cfg0.N, condA (grid0.coords t) ↔ t.val < 8 :=
  (by decide +kernel : ∀ t : Fin grid0.N, condA (grid0.coords t) ↔ t.val < 8)
theorem hcondB : ∀ t : Fin cfg0.N, condB (grid0.coords t) ↔ 8 ≤ t.val :=
  (by decide +kernel : ∀ t : Fin grid0.N, condB (grid0.coords t) ↔ 8 ≤ t.val)
theorem hcondC : ∀ t : Fin cfg0.N, condC (grid0.coords t) ↔ t.val = 47 :=
  (by decide +kernel : ∀ t : Fin grid0.N, condC (grid0.coords t) ↔ t.val = 47)

/-- Every window but the 7th is used at every point; the 7th only at the last. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_8 : ∀ t : Fin cfg0.N, cfg0.idle 8 (grid0.coords t) = false := fun _ => rfl
theorem live_9 : ∀ t : Fin cfg0.N, cfg0.idle 9 (grid0.coords t) = false := fun _ => rfl
theorem live_10 : ∀ t : Fin cfg0.N, cfg0.idle 10 (grid0.coords t) = false := fun _ => rfl
theorem live_7 : ∀ t : Fin cfg0.N, t.val = 47 → cfg0.idle 7 (grid0.coords t) = false := by decide +kernel
theorem idle_7 : ∀ t : Fin cfg0.N, t.val ≠ 47 → cfg0.idle 7 (grid0.coords t) = true := by decide +kernel
theorem noFlush_7 : ∀ t : Fin cfg0.N, t.val ≠ 47 → (cfg0.win 7).flush t = false := by decide +kernel

abbrev ms_0 (t : Fin cfg0.N) : Memref sig .tc .vmem S1x256x768 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x48x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x48x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .smem S64 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x8x96x256 .fp8e5m2 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x8x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x256x768 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S64x1 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S1x8x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x8x48x256 .i8 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x8x256 .f32 := win0_10.stage (cfg0.slots t 10)
abbrev hs_10 (t : Fin cfg0.N) : (ms_10 t).IsWhole := hstage0_10 ((cfg0.slots t 10).cast nbuf0_10)
/-- The three scratch buffers: the transposed key block, the transposed derivative block, the accumulator. -/
abbrev scX : Memref sig .tc .vmem S768x256 .f32 := Memref.whole cc0_scratch0
abbrev scD : Memref sig .tc .vmem S768x256 .bf16 := Memref.whole cc0_scratch1
abbrev scA : Memref sig .tc .vmem S64x256 .f32 := Memref.whole cc0_scratch2
theorem hX : (scX).IsWhole := Memref.isWhole_whole _
theorem hD : (scD).IsWhole := Memref.isWhole_whole _
theorem hA : (scA).IsWhole := Memref.isWhole_whole _

/-- The region's invariant with the scratch buffers as memrefs owned at some contents. -/
theorem PhiA0_eq (c : Dev nD) :
    (Pipeline.ΦA spec0 c : sProp 𝕄)
      = iprop(iprop((∃ d, owns (c : Thread nD τ) scX fullShare d) ∗ (∃ d, owns (c : Thread nD τ) scD fullShare d) ∗ (∃ d, owns (c : Thread nD τ) scA fullShare d)) ∗ (∃ r, prngReg c r)) := by
  unfold Pipeline.ΦA; rw [scopedRest0_eq]; simp only [scX, scD, scA, owns_whole]; try rfl

end Cert.KernelIdeal.Body

end
-- ==== Proof.KernelIdeal.Pieces.lean ====
/- What one run of `KernelIdeal`'s kernel body stores, as functions of its six input blocks and the grid point: per head
   the scale, the token gradient, the packed codes and the two halves of the key gradient, and the lists of pieces
   (a rectangle and its payload, the last store first) these make in each buffer. -/
module

public import proofs.«01_k».proof.Proof.Gen.KernelIdeal.Skeleton
public import Idealize.ShloMosaic.Lib.Pipeline.Value

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32)

/-- The cosines and the sines of the block's batch. -/
def cosB : FVec F S48x256 .f32 := k0_pay9 (View.ld x1 (Rect.unit ![0, 0, 0] S1x48x256.size inb_S1x48x256_S1x48x256_0_0_0))
def sinB : FVec F S48x256 .f32 := k0_pay10 (View.ld x2 (Rect.unit ![0, 0, 0] S1x48x256.size inb_S1x48x256_S1x48x256_0_0_0))

theorem inbK (j : Fin 3) : ∀ a, (![0, 0, 256 * j.val] : Fin 3 → ℕ) a + S1x256x256.size a ≤ S1x256x768.size a := by revert j; decide
theorem inbX (j : Fin 3) : ∀ a, (![256 * j.val, 0] : Fin 2 → ℕ) a + S256x256.size a ≤ S768x256.size a := by revert j; decide
theorem inbA (h : Fin 8) : ∀ a, (![96 * h.val, 0] : Fin 2 → ℕ) a + S48x256.size a ≤ S768x256.size a := by revert h; decide
theorem inbB (h : Fin 8) : ∀ a, (![96 * h.val + 48, 0] : Fin 2 → ℕ) a + S48x256.size a ≤ S768x256.size a := by revert h; decide
theorem inbG (h : Fin 8) : ∀ a, (![0, h.val, 0, 0] : Fin 4 → ℕ) a + S1x1x96x256.size a ≤ S1x8x96x256.size a := by revert h; decide
theorem inbS (h : Fin 8) : ∀ a, (![0, h.val, 0] : Fin 3 → ℕ) a + S1x1x256.size a ≤ S1x8x256.size a := by revert h; decide
theorem inbC (h : Fin 8) : ∀ a, (![0, h.val, 0, 0] : Fin 4 → ℕ) a + S1x1x48x256.size a ≤ S1x8x48x256.size a := by revert h; decide

/-- The transposed key block's columns `256 j … 256 j + 255`, and the pieces of the transposed block. -/
def xPay (j : Fin 3) : FVec F S256x256 .f32 := k0_pay6 (View.ld x0 (Rect.unit ![0, 0, 256 * j.val] S1x256x256.size (inbK j)))
def lstX : List (View.Piece (Elt F) S768x256 .f32) :=
  [⟨Rect.unit ![256 * (2 : Fin 3).val, 0] S256x256.size (inbX 2), xPay x0 2⟩, ⟨Rect.unit ![256 * (1 : Fin 3).val, 0] S256x256.size (inbX 1), xPay x0 1⟩, ⟨Rect.unit ![256 * (0 : Fin 3).val, 0] S256x256.size (inbX 0), xPay x0 0⟩]

/-- Head `h`'s first and second half of the transposed key block. -/
def xA (h : Fin 8) : FVec F S48x256 .f32 := View.ld (View.canon (lstX x0)) (Rect.unit ![96 * h.val, 0] S48x256.size (inbA h))
def xB (h : Fin 8) : FVec F S48x256 .f32 := View.ld (View.canon (lstX x0)) (Rect.unit ![96 * h.val + 48, 0] S48x256.size (inbB h))

/-- Head `h`'s parameter, its cotangent codes and their scales. -/
def alF (h : Fin 8) : Elt F .f32 :=
  View.ld x3 (Rect.unit (s := S64) (k0_off1 i (BitVec.ofNat 32 h.val)) S1.size (k0_off1_inb i h)) (Shape.Idx.first (lt_of_lt_of_eq Nat.one_pos numel1_S1.symm))
def gF (h : Fin 8) : Vec F S1x1x96x256 .fp8e5m2 := View.ld x4 (Rect.unit ![0, h.val, 0, 0] S1x1x96x256.size (inbG h))
def gsF (h : Fin 8) : Vec F S1x1x256 .f32 := View.ld x5 (Rect.unit ![0, h.val, 0] S1x1x256.size (inbS h))

/-- The rotated key of head `h`, its largest magnitude per token, whether that is zero, and the parameter broadcast. -/
def krF (h : Fin 8) : FVec F S96x256 .f32 := k0_pay29 (cosB x1) (sinB x2) (xA x0 h) (xB x0 h)
def amF (h : Fin 8) : FVec F S1x256 .f32 := k0_pay30 (cosB x1) (sinB x2) (xA x0 h) (xB x0 h)
def zF (h : Fin 8) : IVec S1x256 1 := k0_pay31 (cosB x1) (sinB x2) (xA x0 h) (xB x0 h)
def abF (h : Fin 8) : FVec F S1x256 .f32 := k0_pay32 (alF i x3 h)

/-- What is stored for head `h`: the token gradient, the scale, the packed codes, the two halves of the key gradient. -/
def tokP (h : Fin 8) : FVec F S1x1x256 .f32 := k0_pay41 (krF x0 x1 x2 h) (amF x0 x1 x2 h) (zF x0 x1 x2 h) (abF i x3 h) (gF x4 h) (gsF x5 h)
def sP (h : Fin 8) : FVec F S1x1x256 .f32 := k0_pay42 (k0_pay33 (amF x0 x1 x2 h) (zF x0 x1 x2 h) (abF i x3 h))
def codeP (h : Fin 8) : IVec S1x1x48x256 8 := k0_pay47 (k0_pay5 (F := F)) (k0_pay36 (krF x0 x1 x2 h) (amF x0 x1 x2 h) (zF x0 x1 x2 h) (abF i x3 h))
def dAP (h : Fin 8) : FVec F S48x256 .bf16 := k0_pay45 (cosB x1) (sinB x2) (k0_pay39 (krF x0 x1 x2 h) (amF x0 x1 x2 h) (zF x0 x1 x2 h) (abF i x3 h) (gF x4 h)) (k0_pay40 (gsF x5 h))
def dBP (h : Fin 8) : FVec F S48x256 .bf16 := k0_pay46 (cosB x1) (sinB x2) (k0_pay39 (krF x0 x1 x2 h) (amF x0 x1 x2 h) (zF x0 x1 x2 h) (abF i x3 h) (gF x4 h)) (k0_pay40 (gsF x5 h))

/-- The pieces of the token gradient's block, of the scales' and of the codes'. -/
def lst8 : List (View.Piece (Elt F) S1x8x256 .f32) :=
  [⟨Rect.unit ![0, (7 : Fin 8).val, 0] S1x1x256.size (inbS 7), tokP i x0 x1 x2 x3 x4 x5 7⟩, ⟨Rect.unit ![0, (6 : Fin 8).val, 0] S1x1x256.size (inbS 6), tokP i x0 x1 x2 x3 x4 x5 6⟩, ⟨Rect.unit ![0, (5 : Fin 8).val, 0] S1x1x256.size (inbS 5), tokP i x0 x1 x2 x3 x4 x5 5⟩, ⟨Rect.unit ![0, (4 : Fin 8).val, 0] S1x1x256.size (inbS 4), tokP i x0 x1 x2 x3 x4 x5 4⟩, ⟨Rect.unit ![0, (3 : Fin 8).val, 0] S1x1x256.size (inbS 3), tokP i x0 x1 x2 x3 x4 x5 3⟩, ⟨Rect.unit ![0, (2 : Fin 8).val, 0] S1x1x256.size (inbS 2), tokP i x0 x1 x2 x3 x4 x5 2⟩, ⟨Rect.unit ![0, (1 : Fin 8).val, 0] S1x1x256.size (inbS 1), tokP i x0 x1 x2 x3 x4 x5 1⟩, ⟨Rect.unit ![0, (0 : Fin 8).val, 0] S1x1x256.size (inbS 0), tokP i x0 x1 x2 x3 x4 x5 0⟩]
def lst10 : List (View.Piece (Elt F) S1x8x256 .f32) :=
  [⟨Rect.unit ![0, (7 : Fin 8).val, 0] S1x1x256.size (inbS 7), sP i x0 x1 x2 x3 7⟩, ⟨Rect.unit ![0, (6 : Fin 8).val, 0] S1x1x256.size (inbS 6), sP i x0 x1 x2 x3 6⟩, ⟨Rect.unit ![0, (5 : Fin 8).val, 0] S1x1x256.size (inbS 5), sP i x0 x1 x2 x3 5⟩, ⟨Rect.unit ![0, (4 : Fin 8).val, 0] S1x1x256.size (inbS 4), sP i x0 x1 x2 x3 4⟩, ⟨Rect.unit ![0, (3 : Fin 8).val, 0] S1x1x256.size (inbS 3), sP i x0 x1 x2 x3 3⟩, ⟨Rect.unit ![0, (2 : Fin 8).val, 0] S1x1x256.size (inbS 2), sP i x0 x1 x2 x3 2⟩, ⟨Rect.unit ![0, (1 : Fin 8).val, 0] S1x1x256.size (inbS 1), sP i x0 x1 x2 x3 1⟩, ⟨Rect.unit ![0, (0 : Fin 8).val, 0] S1x1x256.size (inbS 0), sP i x0 x1 x2 x3 0⟩]
def lst9 : List (View.Piece (Elt F) S1x8x48x256 .i8) :=
  [⟨Rect.unit ![0, (7 : Fin 8).val, 0, 0] S1x1x48x256.size (inbC 7), codeP i x0 x1 x2 x3 7⟩, ⟨Rect.unit ![0, (6 : Fin 8).val, 0, 0] S1x1x48x256.size (inbC 6), codeP i x0 x1 x2 x3 6⟩, ⟨Rect.unit ![0, (5 : Fin 8).val, 0, 0] S1x1x48x256.size (inbC 5), codeP i x0 x1 x2 x3 5⟩, ⟨Rect.unit ![0, (4 : Fin 8).val, 0, 0] S1x1x48x256.size (inbC 4), codeP i x0 x1 x2 x3 4⟩, ⟨Rect.unit ![0, (3 : Fin 8).val, 0, 0] S1x1x48x256.size (inbC 3), codeP i x0 x1 x2 x3 3⟩, ⟨Rect.unit ![0, (2 : Fin 8).val, 0, 0] S1x1x48x256.size (inbC 2), codeP i x0 x1 x2 x3 2⟩, ⟨Rect.unit ![0, (1 : Fin 8).val, 0, 0] S1x1x48x256.size (inbC 1), codeP i x0 x1 x2 x3 1⟩, ⟨Rect.unit ![0, (0 : Fin 8).val, 0, 0] S1x1x48x256.size (inbC 0), codeP i x0 x1 x2 x3 0⟩]
/-- The pieces of the transposed key gradient, and those of the key gradient's block. -/
def lstD : List (View.Piece (Elt F) S768x256 .bf16) :=
  [⟨Rect.unit ![96 * (7 : Fin 8).val + 48, 0] S48x256.size (inbB 7), dBP i x0 x1 x2 x3 x4 x5 7⟩, ⟨Rect.unit ![96 * (7 : Fin 8).val, 0] S48x256.size (inbA 7), dAP i x0 x1 x2 x3 x4 x5 7⟩, ⟨Rect.unit ![96 * (6 : Fin 8).val + 48, 0] S48x256.size (inbB 6), dBP i x0 x1 x2 x3 x4 x5 6⟩, ⟨Rect.unit ![96 * (6 : Fin 8).val, 0] S48x256.size (inbA 6), dAP i x0 x1 x2 x3 x4 x5 6⟩, ⟨Rect.unit ![96 * (5 : Fin 8).val + 48, 0] S48x256.size (inbB 5), dBP i x0 x1 x2 x3 x4 x5 5⟩, ⟨Rect.unit ![96 * (5 : Fin 8).val, 0] S48x256.size (inbA 5), dAP i x0 x1 x2 x3 x4 x5 5⟩, ⟨Rect.unit ![96 * (4 : Fin 8).val + 48, 0] S48x256.size (inbB 4), dBP i x0 x1 x2 x3 x4 x5 4⟩, ⟨Rect.unit ![96 * (4 : Fin 8).val, 0] S48x256.size (inbA 4), dAP i x0 x1 x2 x3 x4 x5 4⟩, ⟨Rect.unit ![96 * (3 : Fin 8).val + 48, 0] S48x256.size (inbB 3), dBP i x0 x1 x2 x3 x4 x5 3⟩, ⟨Rect.unit ![96 * (3 : Fin 8).val, 0] S48x256.size (inbA 3), dAP i x0 x1 x2 x3 x4 x5 3⟩, ⟨Rect.unit ![96 * (2 : Fin 8).val + 48, 0] S48x256.size (inbB 2), dBP i x0 x1 x2 x3 x4 x5 2⟩, ⟨Rect.unit ![96 * (2 : Fin 8).val, 0] S48x256.size (inbA 2), dAP i x0 x1 x2 x3 x4 x5 2⟩, ⟨Rect.unit ![96 * (1 : Fin 8).val + 48, 0] S48x256.size (inbB 1), dBP i x0 x1 x2 x3 x4 x5 1⟩, ⟨Rect.unit ![96 * (1 : Fin 8).val, 0] S48x256.size (inbA 1), dAP i x0 x1 x2 x3 x4 x5 1⟩, ⟨Rect.unit ![96 * (0 : Fin 8).val + 48, 0] S48x256.size (inbB 0), dBP i x0 x1 x2 x3 x4 x5 0⟩, ⟨Rect.unit ![96 * (0 : Fin 8).val, 0] S48x256.size (inbA 0), dAP i x0 x1 x2 x3 x4 x5 0⟩]
def dkP (j : Fin 3) : FVec F S1x256x256 .bf16 :=
  k0_pay161 (k0_pay4 (F := F)) (View.ld (View.canon (lstD i x0 x1 x2 x3 x4 x5)) (Rect.unit ![256 * j.val, 0] S256x256.size (inbX j)))
def lst6 : List (View.Piece (Elt F) S1x256x768 .bf16) :=
  [⟨Rect.unit ![0, 0, 256 * (2 : Fin 3).val] S1x256x256.size (inbK 2), dkP i x0 x1 x2 x3 x4 x5 2⟩, ⟨Rect.unit ![0, 0, 256 * (1 : Fin 3).val] S1x256x256.size (inbK 1), dkP i x0 x1 x2 x3 x4 x5 1⟩, ⟨Rect.unit ![0, 0, 256 * (0 : Fin 3).val] S1x256x256.size (inbK 0), dkP i x0 x1 x2 x3 x4 x5 0⟩]

/-- What is left in each output block: the key gradient, the token gradient, the codes, the scales. -/
def blk6 : Vec F S1x256x768 .bf16 := View.canon (lst6 i x0 x1 x2 x3 x4 x5)
def blk8 : Vec F S1x8x256 .f32 := View.canon (lst8 i x0 x1 x2 x3 x4 x5)
def blk9 : Vec F S1x8x48x256 .i8 := View.canon (lst9 i x0 x1 x2 x3)
def blk10 : Vec F S1x8x256 .f32 := View.canon (lst10 i x0 x1 x2 x3)

/-- The token gradient's block as the accumulator reads it. -/
def partF : FVec F S8x256 .f32 :=
  k0_pay164 (View.ld (View.canon (lst8 i x0 x1 x2 x3 x4 x5)) (Rect.unit ![0, 0, 0] S1x8x256.size inb_S1x8x256_S1x8x256_0_0_0))

end Cert.KernelIdeal.Body

end
-- ==== Proof.KernelIdeal.Acc.lean ====
/- The accumulator of `KernelIdeal`'s kernel body. Row block `g` (8 rows) holds the sum over the batches done so far of head group
   `g`'s token gradients; a point adds its block to one row block and leaves the others. -/
module

public import proofs.«01_k».proof.Proof.KernelIdeal.Cases
public import proofs.«01_k».proof.Proof.KernelIdeal.Pieces
public import Idealize.ShloMosaic.Lib.WritesUnit

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (c : Dev nD)

/-- The token gradients of point `t`. -/
def partT (t : Fin cfg0.N) : FVec F S8x256 .f32 := partF (grid0.coords t) (iblk m c 0 t) (iblk m c 1 t) (iblk m c 2 t) (iblk m c 3 t) (iblk m c 4 t) (iblk m c 5 t)

/-- Position `n` as a point. -/
def pt (n : ℕ) : Fin cfg0.N := ⟨n % 48, lt_of_lt_of_eq (Nat.mod_lt n (by decide)) (show 48 = cfg0.N from N_0.symm)⟩

theorem lt48 (t : Fin cfg0.N) : t.val < 48 := lt_of_lt_of_eq t.isLt (show cfg0.N = 48 from N_0)
theorem pt_val (t : Fin cfg0.N) : pt t.val = t := Fin.ext (Nat.mod_eq_of_lt (lt48 t))

/-- Row block `g` after batch `b`. -/
def accG (g : Fin 8) : ℕ → FVec F S8x256 .f32
  | 0 => k0_pay1 (partT m c (pt g.val))
  | b + 1 => k0_pay2 (partT m c (pt (8 * (b + 1) + g.val))) (accG g b)

theorem inbAcc (g : Fin 8) : ∀ a, (![8 * g.val, 0] : Fin 2 → ℕ) a + S8x256.size a ≤ S64x256.size a := by revert g; decide
/-- The place of a row block's element in the accumulator. -/
def rowAt (g : Fin 8) (j : S8x256.Idx) : S64x256.Idx := (Rect.unit (s := S64x256) ![8 * g.val, 0] S8x256.size (inbAcc g)).emb j
theorem rowAt_0 (g : Fin 8) (j : S8x256.Idx) : (rowAt g j 0).val = 8 * g.val + (j 0).val := by
  show 8 * g.val + 1 * (j 0).val = _; omega
theorem rowAt_1 (g : Fin 8) (j : S8x256.Idx) : (rowAt g j 1).val = (j 1).val := by
  show 0 + 1 * (j 1).val = _; omega

/-- What the accumulator holds before position `n`: each row block a point before `n` has written holds what the last such
    point left. -/
def Inv (n : ℕ) (f : Vec F S64x256 .f32) : Prop :=
  ∀ (g : Fin 8) (b : ℕ), 8 * b + g.val < n → n ≤ 8 * b + g.val + 8 → ∀ j : S8x256.Idx, f (rowAt g j) = accG m c g b j

theorem inv_zero (f : Vec F S64x256 .f32) : Inv m c 0 f := fun _ _ h => absurd h (Nat.not_lt_zero _)

theorem coord1 : ∀ t : Fin cfg0.N, ((grid0.coords t) 1).val = t.val % 8 := (by decide +kernel : ∀ t : Fin grid0.N, ((grid0.coords t) 1).val = t.val % 8)

/-- One store of a row block: the other row blocks keep what they held. -/
theorem read_other (f : Vec F S64x256 .f32) (off : Fin 2 → ℕ) (inb : ∀ a, off a + S8x256.size a ≤ S64x256.size a) (w : Vec F S8x256 .f32) (o : ℕ) (hoff : off = ![8 * o, 0])
    (g : Fin 8) (j : S8x256.Idx) (h : g.val ≠ o) :
    scA.view.read (Elt F) (scA.view.writes (Elt F) ((hA).unread f) [⟨Rect.unit (s := S64x256) off S8x256.size inb, w⟩]) (rowAt g j) = f (rowAt g j) := by
  have hj : (j 0).val < 8 := (j 0).isLt
  rw [View.read_writes_cons_rows_of_not_mem (o := 8 * o) (W := 8) scA.view _ inb w [] (rowAt g j) hoff rfl (by rw [rowAt_0]; omega), View.writes_nil]
  rw [(hA).read_unread]

/-- One store of a row block: it reads back. -/
theorem read_same (f : Vec F S64x256 .f32) (off : Fin 2 → ℕ) (inb : ∀ a, off a + S8x256.size a ≤ S64x256.size a) (w : Vec F S8x256 .f32)
    (g : Fin 8) (hoff : off = ![8 * g.val, 0]) (j : S8x256.Idx) :
    scA.view.read (Elt F) (scA.view.writes (Elt F) ((hA).unread f) [⟨Rect.unit (s := S64x256) off S8x256.size inb, w⟩]) (rowAt g j) = w j :=
  View.read_writes_cons_rows_of_mem scA.view _ inb w [] (rowAt g j) j hoff (rowAt_0 g j) (rowAt_1 g j)

/-- A load of a row block. -/
theorem ld_row (f : Vec F S64x256 .f32) (off : Fin 2 → ℕ) (inb : ∀ a, off a + S8x256.size a ≤ S64x256.size a)
    (g : Fin 8) (hoff : off = ![8 * g.val, 0]) :
    View.ld f (Rect.unit (s := S64x256) off S8x256.size inb) = fun j => f (rowAt g j) := by
  subst hoff; rfl

/-- A point of batch 0 sets its row block. -/
theorem inv_set (t : Fin cfg0.N) (h : t.val < 8) (f : Vec F S64x256 .f32) (hf : Inv m c t.val f) (inb) :
    Inv m c (t.val + 1) (scA.view.read (Elt F) (scA.view.writes (Elt F) ((hA).unread f)
      [⟨Rect.unit (s := S64x256) (k0_off2 (grid0.coords t)) S8x256.size inb, k0_pay1 (partT m c t)⟩])) := by
  intro g b h1 h2 j
  have ho : k0_off2 (grid0.coords t) = ![8 * (t.val % 8), 0] := by rw [k0_off2_eq, coord1]
  by_cases hg : g.val = t.val % 8
  · have hb : b = 0 := by omega
    subst hb
    rw [read_same _ _ inb _ g (by rw [ho, hg])]
    have : pt g.val = t := by rw [← pt_val t]; congr 1; omega
    show _ = k0_pay1 (partT m c (pt g.val)) j
    rw [this]
  · rw [read_other _ _ inb _ _ ho g j hg]
    exact hf g b (by omega) (by omega) j

/-- A point of a later batch adds to its row block. -/
theorem inv_add (t : Fin cfg0.N) (h : 8 ≤ t.val) (f : Vec F S64x256 .f32) (hf : Inv m c t.val f) (inb inb') :
    Inv m c (t.val + 1) (scA.view.read (Elt F) (scA.view.writes (Elt F) ((hA).unread f)
      [⟨Rect.unit (s := S64x256) (k0_off3 (grid0.coords t)) S8x256.size inb,
        k0_pay2 (partT m c t) (View.ld f (Rect.unit (s := S64x256) (k0_off3 (grid0.coords t)) S8x256.size inb'))⟩])) := by
  intro g b h1 h2 j
  have ho : k0_off3 (grid0.coords t) = ![8 * (t.val % 8), 0] := by rw [k0_off3_eq, coord1]
  by_cases hg : g.val = t.val % 8
  · obtain ⟨b, rfl⟩ : ∃ b', b = b' + 1 := ⟨b - 1, by omega⟩
    rw [read_same _ _ inb _ g (by rw [ho, hg])]
    have : pt (8 * (b + 1) + g.val) = t := by rw [← pt_val t]; congr 1; omega
    show _ = k0_pay2 (partT m c (pt (8 * (b + 1) + g.val))) (accG m c g b) j
    rw [this, ld_row _ _ inb' g (by rw [ho, hg])]
    rw [show (fun j => f (rowAt g j)) = accG m c g b from funext fun j => hf g b (by omega) (by omega) j]
  · rw [read_other _ _ inb _ _ ho g j hg]
    exact hf g b (by omega) (by omega) j

/-- The accumulator after the last point. -/
def accFin : Vec F S64x256 .f32 := fun y =>
  accG m c ⟨(y 0).val / 8, by have : (y 0).val < 64 := (y 0).isLt; omega⟩ 5
    ((fun a => match a with | ⟨0, _⟩ => ⟨(y 0).val % 8, Nat.mod_lt _ (by decide)⟩ | ⟨1, _⟩ => ⟨(y 1).val, (y 1).isLt⟩) : S8x256.Idx)

theorem inv_last (f : Vec F S64x256 .f32) (hf : Inv m c 48 f) : f = accFin m c := by
  funext y
  have hy : (y 0).val < 64 := (y 0).isLt
  have := hf ⟨(y 0).val / 8, by omega⟩ 5 (by show 8 * 5 + (y 0).val / 8 < 48; omega) (by show 48 ≤ 8 * 5 + (y 0).val / 8 + 8; omega)
    ((fun a => match a with | ⟨0, _⟩ => ⟨(y 0).val % 8, Nat.mod_lt _ (by decide)⟩ | ⟨1, _⟩ => ⟨(y 1).val, (y 1).isLt⟩) : S8x256.Idx)
  rw [show accFin m c y = _ from rfl, accFin, ← this]
  congr 1
  funext a
  apply Fin.ext
  match a with
  | ⟨0, _⟩ => refine Eq.trans ?_ (rowAt_0 _ _).symm; show (y 0).val = 8 * ((y 0).val / 8) + (y 0).val % 8; omega
  | ⟨1, _⟩ => exact (rowAt_1 (⟨(y 0).val / 8, by omega⟩ : Fin 8) ((fun a => match a with | ⟨0, _⟩ => ⟨(y 0).val % 8, Nat.mod_lt _ (by decide)⟩ | ⟨1, _⟩ => ⟨(y 1).val, (y 1).isLt⟩) : S8x256.Idx)).symm

end Cert.KernelIdeal.Body

end
-- ==== Proof.KernelIdeal.RunA.lean ====
/- The run of `KernelIdeal`'s kernel body at a point of case A (batch 0): which pieces its stores leave in each buffer.  -/
module

public import proofs.«01_k».proof.Proof.Gen.KernelIdeal.Skeleton
public import proofs.«01_k».proof.Proof.KernelIdeal.Cases

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The pieces the body's stores leave in each output's and scratch's buffer (the last store first) in case A, with the proof that
    on whole buffers — the inputs at `x0 … x5`, the accumulator at `xs`, the 7th output at `xi7`, handed back untouched — the body runs and leaves the
    inputs as they were and each buffer with its pieces written. -/
noncomputable def runA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (xi7 : Vec F S64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun xi7 E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.KernelIdeal.Body

end
-- ==== Proof.KernelIdeal.RunB.lean ====
/- The run of `KernelIdeal`'s kernel body at a point of case B (a later batch, not the last point): which pieces its stores leave in each buffer.  -/
module

public import proofs.«01_k».proof.Proof.KernelIdeal.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The pieces the body's stores leave in each output's and scratch's buffer (the last store first) in case B, with the proof that
    on whole buffers — the inputs at `x0 … x5`, the accumulator at `xs`, the 7th output at `xi7`, handed back untouched — the body runs and leaves the
    inputs as they were and each buffer with its pieces written. -/
noncomputable def runB (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (xi7 : Vec F S64x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, fun xi7 E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.KernelIdeal.Body

end
-- ==== Proof.KernelIdeal.RunC.lean ====
/- The run of `KernelIdeal`'s kernel body at a point of case C (the last point): which pieces its stores leave in each buffer.  -/
module

public import proofs.«01_k».proof.Proof.KernelIdeal.RunB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3000000 in
/-- The pieces the body's stores leave in each output's and scratch's buffer (the last store first) in case C, with the proof that
    on whole buffers — the inputs at `x0 … x5`, the accumulator at `xs` — the body runs and leaves the
    inputs as they were and each buffer with its pieces written. -/
noncomputable def runC (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    Σ' (L6 : List (View.Piece (Elt F) S1x256x768 .bf16)), Σ' (L7 : List (View.Piece (Elt F) S64x1 .f32)), Σ' (L8 : List (View.Piece (Elt F) S1x8x256 .f32)), Σ' (L9 : List (View.Piece (Elt F) S1x8x48x256 .i8)), Σ' (L10 : List (View.Piece (Elt F) S1x8x256 .f32)), Σ' (LA : List (View.Piece (Elt F) S64x256 .f32)), Σ' (LX : List (View.Piece (Elt F) S768x256 .f32)), { LD : List (View.Piece (Elt F) S768x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LX) ∗ (∃ f, arg14.view.loc (c : Thread nD τ) ↦[arg14.view.set]{fullShare} arg14.view.writes (Elt F) f LD) ∗ arg15.view.loc (c : Thread nD τ) ↦[arg15.view.set]{fullShare} arg15.view.writes (Elt F) (harg15.unread xs) LA) -∗ K ⟨⟩))
          ⊢ wp frame (wpE (defs₀ (F := F)) Variants.none c none) E (cc0_fq_rotary_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_fq_rotary_bwd_eq_skeleton]; unfold cc0_fq_rotary_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg15.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    iexact HS2

end Cert.KernelIdeal.Body

end
-- ==== Proof.KernelIdeal.EqA.lean ====
/- The pieces the run of `KernelIdeal`'s kernel body at a point of case A leaves are those of the module `Pieces`. -/
module

public import proofs.«01_k».proof.Proof.KernelIdeal.RunA
public import proofs.«01_k».proof.Proof.KernelIdeal.Pieces

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces of the key gradient block. -/
theorem runA_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runA_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = lst8 i x0 x1 x2 x3 x4 x5 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runA_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst9 i x0 x1 x2 x3 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runA_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst10 i x0 x1 x2 x3 := by
  unfold runA; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runA_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : condA i) (hc1 : ¬condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = [⟨Rect.unit (s := S64x256) (k0_off2 i) S8x256.size (k0_off2_inb i hc0), k0_pay1 (partF i x0 x1 x2 x3 x4 x5)⟩] := by
  unfold runA; dsimp only; sl_unfold_words
  simp only [View.readAt_eq_ld, View.readCov_eq_canon', harg2.read_unread, harg3.read_unread, harg4.read_unread, harg5.read_unread, harg6.read_unread, harg7.read_unread, harg15.read_unread]
  rfl

end Cert.KernelIdeal.Body

end
-- ==== Proof.KernelIdeal.EqB.lean ====
/- The pieces the run of `KernelIdeal`'s kernel body at a point of case B leaves are those of the module `Pieces`. -/
module

public import proofs.«01_k».proof.Proof.KernelIdeal.RunB
public import proofs.«01_k».proof.Proof.KernelIdeal.Pieces
public import proofs.«01_k».proof.Proof.KernelIdeal.EqA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces of the key gradient block. -/
theorem runB_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runB_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = lst8 i x0 x1 x2 x3 x4 x5 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runB_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst9 i x0 x1 x2 x3 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runB_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst10 i x0 x1 x2 x3 := by
  unfold runB; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runB_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : ¬condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩] := by
  unfold runB; dsimp only; sl_unfold_words
  simp only [View.readAt_eq_ld, View.readCov_eq_canon', harg2.read_unread, harg3.read_unread, harg4.read_unread, harg5.read_unread, harg6.read_unread, harg7.read_unread, harg15.read_unread]
  rfl

end Cert.KernelIdeal.Body

end
-- ==== Proof.KernelIdeal.EqC.lean ====
/- The pieces the run of `KernelIdeal`'s kernel body at a point of case C leaves are those of the module `Pieces`. -/
module

public import proofs.«01_k».proof.Proof.KernelIdeal.RunC
public import proofs.«01_k».proof.Proof.KernelIdeal.Pieces
public import proofs.«01_k».proof.Proof.KernelIdeal.EqB

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The pieces of the key gradient block. -/
theorem runC_L6 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).1 = lst6 i x0 x1 x2 x3 x4 x5 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the parameter gradient. -/
theorem runC_L7 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.1 = [⟨Rect.unit ![0, 0] S64x1.size inb_S64x1_S64x1_0_0, k0_pay3 (View.ld (arg15.view.read (Elt F) (arg15.view.writes (Elt F) (harg15.unread xs) [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩])) (Rect.unit ![0, 0] S64x256.size inb_S64x256_S64x256_0_0))⟩] := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the token gradient block. -/
theorem runC_L8 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.1 = lst8 i x0 x1 x2 x3 x4 x5 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the codes block. -/
theorem runC_L9 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.1 = lst9 i x0 x1 x2 x3 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the scales block. -/
theorem runC_L10 (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.1 = lst10 i x0 x1 x2 x3 := by
  unfold runC; dsimp only; sl_unfold_words
  simp only [View.readAt_eq_ld, View.readCov_eq_canon', harg2.read_unread, harg3.read_unread, harg4.read_unread, harg5.read_unread, harg6.read_unread, harg7.read_unread, harg15.read_unread]
  rfl

/-- The pieces of the accumulator. -/
theorem runC_LA (c : Dev nD) (i : grid0.Coords) (arg2 : Memref sig .tc .vmem S1x256x768 .bf16) (harg2 : arg2.IsWhole) (arg3 : Memref sig .tc .vmem S1x48x256 .f32) (harg3 : arg3.IsWhole) (arg4 : Memref sig .tc .vmem S1x48x256 .f32) (harg4 : arg4.IsWhole) (arg5 : Memref sig .tc .smem S64 .f32) (harg5 : arg5.IsWhole) (arg6 : Memref sig .tc .vmem S1x8x96x256 .fp8e5m2) (harg6 : arg6.IsWhole) (arg7 : Memref sig .tc .vmem S1x8x256 .f32) (harg7 : arg7.IsWhole) (arg8 : Memref sig .tc .vmem S1x256x768 .bf16) (harg8 : arg8.IsWhole) (arg9 : Memref sig .tc .vmem S64x1 .f32) (harg9 : arg9.IsWhole) (arg10 : Memref sig .tc .vmem S1x8x256 .f32) (harg10 : arg10.IsWhole) (arg11 : Memref sig .tc .vmem S1x8x48x256 .i8) (harg11 : arg11.IsWhole) (arg12 : Memref sig .tc .vmem S1x8x256 .f32) (harg12 : arg12.IsWhole) (arg13 : Memref sig .tc .vmem S768x256 .f32) (harg13 : arg13.IsWhole) (arg14 : Memref sig .tc .vmem S768x256 .bf16) (harg14 : arg14.IsWhole) (arg15 : Memref sig .tc .vmem S64x256 .f32) (harg15 : arg15.IsWhole) (hc0 : ¬condA i) (hc1 : condB i) (hc2 : condC i)
    (x0 : Vec F S1x256x768 .bf16) (x1 : Vec F S1x48x256 .f32) (x2 : Vec F S1x48x256 .f32) (x3 : Vec F S64 .f32) (x4 : Vec F S1x8x96x256 .fp8e5m2) (x5 : Vec F S1x8x256 .f32) (xs : Vec F S64x256 .f32) :
    (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 xs).2.2.2.2.2.1 = [⟨Rect.unit (s := S64x256) (k0_off3 i) S8x256.size (k0_off3_inb i hc1), k0_pay2 (partF i x0 x1 x2 x3 x4 x5) (View.ld xs (Rect.unit (s := S64x256) (k0_off3 i) S8x256.size (k0_off3_inb i hc1)))⟩] := by
  unfold runC; dsimp only; sl_unfold_words
  simp only [View.readAt_eq_ld, View.readCov_eq_canon', harg2.read_unread, harg3.read_unread, harg4.read_unread, harg5.read_unread, harg6.read_unread, harg7.read_unread, harg15.read_unread]
  rfl

end Cert.KernelIdeal.Body

end
-- ==== Proof.KernelIdeal.Frame.lean ====
/- The frame of `KernelIdeal`: every run of the program ends, leaves its argument arrays as they were and its semaphores at zero, and
   leaves in its result arrays what the points' blocks make. -/
module

public import proofs.«01_k».proof.Proof.KernelIdeal.Acc
public import proofs.«01_k».proof.Proof.KernelIdeal.EqC
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant before position `n`: the transposes' scratch at anything, the accumulator at contents `Inv` tells. -/
def PhiS (c : Dev nD) (n : ℕ) : sProp 𝕄 :=
  iprop(iprop((∃ d, owns (c : Thread nD τ) scX fullShare d) ∗ (∃ d, owns (c : Thread nD τ) scD fullShare d)
    ∗ (∃ f, ⌜Inv m c n f⌝ ∗ owns (c : Thread nD τ) scA fullShare f)) ∗ (∃ r, prngReg c r))

/-- What each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blk6 (grid0.coords t) (iblk m c 0 t) (iblk m c 1 t) (iblk m c 2 t) (iblk m c 3 t) (iblk m c 4 t) (iblk m c 5 t)
    | ⟨7, _⟩ => k0_pay3 (accFin m c)
    | ⟨8, _⟩ => blk8 (grid0.coords t) (iblk m c 0 t) (iblk m c 1 t) (iblk m c 2 t) (iblk m c 3 t) (iblk m c 4 t) (iblk m c 5 t)
    | ⟨9, _⟩ => blk9 (grid0.coords t) (iblk m c 0 t) (iblk m c 1 t) (iblk m c 2 t) (iblk m c 3 t)
    | ⟨10, _⟩ => blk10 (grid0.coords t) (iblk m c 0 t) (iblk m c 1 t) (iblk m c 2 t) (iblk m c 3 t)
  Φ t := PhiS m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = PhiS m c t.val := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blk6 (grid0.coords t) (iblk m c 0 t) (iblk m c 1 t) (iblk m c 2 t) (iblk m c 3 t) (iblk m c 4 t) (iblk m c 5 t) := by dsimp only [dats]
theorem after_7 (c : Dev nD) (t : Fin cfg0.N) : (dats m 0 c).after 7 t = k0_pay3 (accFin m c) := by dsimp only [dats]
theorem after_8 (c : Dev nD) (t : Fin cfg0.N) : (dats m 0 c).after 8 t = blk8 (grid0.coords t) (iblk m c 0 t) (iblk m c 1 t) (iblk m c 2 t) (iblk m c 3 t) (iblk m c 4 t) (iblk m c 5 t) := by dsimp only [dats]
theorem after_9 (c : Dev nD) (t : Fin cfg0.N) : (dats m 0 c).after 9 t = blk9 (grid0.coords t) (iblk m c 0 t) (iblk m c 1 t) (iblk m c 2 t) (iblk m c 3 t) := by dsimp only [dats]
theorem after_10 (c : Dev nD) (t : Fin cfg0.N) : (dats m 0 c).after 10 t = blk10 (grid0.coords t) (iblk m c 0 t) (iblk m c 1 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- The pieces of output 6's block cover it. -/
theorem cover_6 (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32) : ∀ y, ∃ p ∈ lst6 i x0 x1 x2 x3 x4 x5, y ∈ p.1.set := fun y =>
  View.cover_of_tiledL (lst6 i x0 x1 x2 x3 x4 x5) S1x256x256.size (by sl_kernel_rfl) y

/-- The pieces of output 8's block cover it. -/
theorem cover_8 (i : grid0.Coords) (x0 : Vec F S1x256x768 .bf16) (x1 : Vec F S1x48x256 .f32) (x2 : Vec F S1x48x256 .f32) (x3 : Vec F S64 .f32) (x4 : Vec F S1x8x96x256 .fp8e5m2) (x5 : Vec F S1x8x256 .f32) : ∀ y, ∃ p ∈ lst8 i x0 x1 x2 x3 x4 x5, y ∈ p.1.set := fun y =>
  View.cover_of_tiledL (lst8 i x0 x1 x2 x3 x4 x5) S1x1x256.size (by sl_kernel_rfl) y

/-- The pieces of output 9's block cover it. -/
theorem cover_9 (i : grid0.Coords) (x0 : Vec F S1x256x768 .bf16) (x1 : Vec F S1x48x256 .f32) (x2 : Vec F S1x48x256 .f32) (x3 : Vec F S64 .f32) : ∀ y, ∃ p ∈ lst9 i x0 x1 x2 x3, y ∈ p.1.set := fun y =>
  View.cover_of_tiledL (lst9 i x0 x1 x2 x3) S1x1x48x256.size (by sl_kernel_rfl) y

/-- The pieces of output 10's block cover it. -/
theorem cover_10 (i : grid0.Coords) (x0 : Vec F S1x256x768 .bf16) (x1 : Vec F S1x48x256 .f32) (x2 : Vec F S1x48x256 .f32) (x3 : Vec F S64 .f32) : ∀ y, ∃ p ∈ lst10 i x0 x1 x2 x3, y ∈ p.1.set := fun y =>
  View.cover_of_tiledL (lst10 i x0 x1 x2 x3) S1x1x256.size (by sl_kernel_rfl) y

theorem cover_7 (w : Vec F S64x1 .f32) : ∀ y, ∃ p ∈ ([⟨Rect.unit ![0,0] S64x1.size inb_S64x1_S64x1_0_0, w⟩] : List (View.Piece (Elt F) S64x1 .f32)), y ∈ p.1.set := fun y =>
  ⟨_, List.mem_singleton_self _, View.mem_set_unit_zero (S := S64x1) (by decide) inb_S64x1_S64x1_0_0 y⟩

/-- What the body is called with at a point, and what it returns, window by window. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem leaves_0 (c : Dev nD) (t : Fin cfg0.N) : (dats m 0 c).leavesExact 0 t = owns (c : Thread nD τ) (ms_0 t) fullShare ((dats m 0 c).after 0 t) := by
  unfold Dat.leavesExact; rw [live_0 t]
theorem leaves_1 (c : Dev nD) (t : Fin cfg0.N) : (dats m 0 c).leavesExact 1 t = owns (c : Thread nD τ) (ms_1 t) fullShare ((dats m 0 c).after 1 t) := by
  unfold Dat.leavesExact; rw [live_1 t]
theorem leaves_2 (c : Dev nD) (t : Fin cfg0.N) : (dats m 0 c).leavesExact 2 t = owns (c : Thread nD τ) (ms_2 t) fullShare ((dats m 0 c).after 2 t) := by
  unfold Dat.leavesExact; rw [live_2 t]
theorem leaves_3 (c : Dev nD) (t : Fin cfg0.N) : (dats m 0 c).leavesExact 3 t = owns (c : Thread nD τ) (ms_3 t) fullShare ((dats m 0 c).after 3 t) := by
  unfold Dat.leavesExact; rw [live_3 t]
theorem leaves_4 (c : Dev nD) (t : Fin cfg0.N) : (dats m 0 c).leavesExact 4 t = owns (c : Thread nD τ) (ms_4 t) fullShare ((dats m 0 c).after 4 t) := by
  unfold Dat.leavesExact; rw [live_4 t]
theorem leaves_5 (c : Dev nD) (t : Fin cfg0.N) : (dats m 0 c).leavesExact 5 t = owns (c : Thread nD τ) (ms_5 t) fullShare ((dats m 0 c).after 5 t) := by
  unfold Dat.leavesExact; rw [live_5 t]
theorem leaves_6 (c : Dev nD) (t : Fin cfg0.N) : (dats m 0 c).leavesExact 6 t = owns (c : Thread nD τ) (ms_6 t) fullShare ((dats m 0 c).after 6 t) := by
  unfold Dat.leavesExact; rw [live_6 t]
theorem leaves_8 (c : Dev nD) (t : Fin cfg0.N) : (dats m 0 c).leavesExact 8 t = owns (c : Thread nD τ) (ms_8 t) fullShare ((dats m 0 c).after 8 t) := by
  unfold Dat.leavesExact; rw [live_8 t]
theorem leaves_9 (c : Dev nD) (t : Fin cfg0.N) : (dats m 0 c).leavesExact 9 t = owns (c : Thread nD τ) (ms_9 t) fullShare ((dats m 0 c).after 9 t) := by
  unfold Dat.leavesExact; rw [live_9 t]
theorem leaves_10 (c : Dev nD) (t : Fin cfg0.N) : (dats m 0 c).leavesExact 10 t = owns (c : Thread nD τ) (ms_10 t) fullShare ((dats m 0 c).after 10 t) := by
  unfold Dat.leavesExact; rw [live_10 t]
theorem leaves_7 (c : Dev nD) (t : Fin cfg0.N) (h : t.val = 47) : (dats m 0 c).leavesExact 7 t = owns (c : Thread nD τ) (ms_7 t) fullShare ((dats m 0 c).after 7 t) := by
  unfold Dat.leavesExact; rw [live_7 t h]

set_option maxHeartbeats 14400000 in
/-- The body at any point: from the windows' buffers and the invariant it runs, and leaves them as the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) from rfl, Phi_castSucc]
  have hN : t.val < 48 := lt48 t
  rw [leaves_0, leaves_1, leaves_2, leaves_3, leaves_4, leaves_5, leaves_6, leaves_8, leaves_9, leaves_10]
  simp only [after_0, after_1, after_2, after_3, after_4, after_5, after_6, after_8, after_9, after_10]
  unfold PhiS
  by_cases h0 : t.val < 8
  · rw [Dat.leavesExact_idle (dats m 0 c) 7 t (idle_7 t (by omega)) (noFlush_7 t (by omega))]
    iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) _ _ _ _ _ _ _ _ _ _ _ _ _ _ _ _ _ _ _ _ _ _ _ _ _ _ _ _ ((hcondA t).mpr h0) (fun h => absurd ((hcondB t).mp h) (by omega)) (fun h => absurd ((hcondC t).mp h) (by omega)) (iblk m c 0 t) (iblk m c 1 t) (iblk m c 2 t) (iblk m c 3 t) (iblk m c 4 t) (iblk m c 5 t) fa).2.2.2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, ⟨%e6, H6⟩, H7, ⟨%e8, H8⟩, ⟨%e9, H9⟩, ⟨%e10, H10⟩, ⟨%fT0, HS0⟩, ⟨%fT1, HS1⟩, HS2⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; isplitr
        swap
        · unfold owns; iexists _; isplitr
          swap; · iexact HS2
          ipureintro; rfl
        ipureintro; rw [runA_LA]; exact inv_set m c t h0 fa hfa _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [View.read_writes_eq_canon _ _ _ (by rw [runA_L6]; exact cover_6 _ _ _ _ _ _ _ ), runA_L6]; rfl
    isplitl [H7]; · iexists _; iexact H7
    isplitl [H8]
    · unfold owns; iexists _; isplitr
      swap; · iexact H8
      ipureintro; rw [View.read_writes_eq_canon _ _ _ (by rw [runA_L8]; exact cover_8 _ _ _ _ _ _ _ ), runA_L8]; rfl
    isplitl [H9]
    · unfold owns; iexists _; isplitr
      swap; · iexact H9
      ipureintro; rw [View.read_writes_eq_canon _ _ _ (by rw [runA_L9]; exact cover_9 _ _ _ _ _ ), runA_L9]; rfl
    unfold owns; iexists _; isplitr
    swap; · iexact H10
    ipureintro; rw [View.read_writes_eq_canon _ _ _ (by rw [runA_L10]; exact cover_10 _ _ _ _ _ ), runA_L10]; rfl
  · by_cases h2 : t.val = 47
    · rw [leaves_7 m c t h2, after_7]
      iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runC c (grid0.coords t) _ _ _ _ _ _ _ _ _ _ _ _ _ _ _ _ _ _ _ _ _ _ _ _ _ _ _ _ (fun h => absurd ((hcondA t).mp h) (by omega)) ((hcondB t).mpr (by omega)) ((hcondC t).mpr h2) (iblk m c 0 t) (iblk m c 1 t) (iblk m c 2 t) (iblk m c 3 t) (iblk m c 4 t) (iblk m c 5 t) fa).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%e9, H9⟩, ⟨%e10, H10⟩, ⟨%fT0, HS0⟩, ⟨%fT1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; isplitr
          swap
          · unfold owns; iexists _; isplitr
            swap; · iexact HS2
            ipureintro; rfl
          ipureintro; rw [runC_LA]; exact inv_add m c t (by omega) fa hfa _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; rw [View.read_writes_eq_canon _ _ _ (by rw [runC_L6]; exact cover_6 _ _ _ _ _ _ _ ), runC_L6]; rfl
      isplitl [H7]
      · unfold owns; iexists _; isplitr
        swap; · iexact H7
        ipureintro; rw [View.read_writes_eq_canon _ _ _ (by rw [runC_L7]; exact cover_7 _), runC_L7, View.canon_unit_zero (by decide), View.ld_unit_zero (by decide)]
        congr 1
        refine inv_last m c _ ?_
        have := inv_add m c t (by omega) fa hfa (k0_off3_inb (grid0.coords t) ((hcondB t).mpr (by omega))) (k0_off3_inb (grid0.coords t) ((hcondB t).mpr (by omega)))
        exact Eq.mp (congrArg (fun n => Inv m c n _) (show t.val + 1 = 48 by omega)) this
      isplitl [H8]
      · unfold owns; iexists _; isplitr
        swap; · iexact H8
        ipureintro; rw [View.read_writes_eq_canon _ _ _ (by rw [runC_L8]; exact cover_8 _ _ _ _ _ _ _ ), runC_L8]; rfl
      isplitl [H9]
      · unfold owns; iexists _; isplitr
        swap; · iexact H9
        ipureintro; rw [View.read_writes_eq_canon _ _ _ (by rw [runC_L9]; exact cover_9 _ _ _ _ _ ), runC_L9]; rfl
      unfold owns; iexists _; isplitr
      swap; · iexact H10
      ipureintro; rw [View.read_writes_eq_canon _ _ _ (by rw [runC_L10]; exact cover_10 _ _ _ _ _ ), runC_L10]; rfl
    · rw [Dat.leavesExact_idle (dats m 0 c) 7 t (idle_7 t (by omega)) (noFlush_7 t (by omega))]
      iintro ⟨⟨⟨HS0, HS1, ⟨%fa, %hfa, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB c (grid0.coords t) _ _ _ _ _ _ _ _ _ _ _ _ _ _ _ _ _ _ _ _ _ _ _ _ _ _ _ _ (fun h => absurd ((hcondA t).mp h) (by omega)) ((hcondB t).mpr (by omega)) (fun h => absurd ((hcondC t).mp h) (by omega)) (iblk m c 0 t) (iblk m c 1 t) (iblk m c 2 t) (iblk m c 3 t) (iblk m c 4 t) (iblk m c 5 t) fa).2.2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      iintro ⟨H0, H1, H2, H3, H4, H5, ⟨%e6, H6⟩, H7, ⟨%e8, H8⟩, ⟨%e9, H9⟩, ⟨%e10, H10⟩, ⟨%fT0, HS0⟩, ⟨%fT1, HS1⟩, HS2⟩
      isplitl [HS0 HS1 HS2 Hg]
      · isplitl [HS0 HS1 HS2]
        · isplitl [HS0]
          · iexists _; unfold owns; iexists _; isplitr
            swap; · iexact HS0
            ipureintro; rfl
          isplitl [HS1]
          · iexists _; unfold owns; iexists _; isplitr
            swap; · iexact HS1
            ipureintro; rfl
          iexists _; isplitr
          swap
          · unfold owns; iexists _; isplitr
            swap; · iexact HS2
            ipureintro; rfl
          ipureintro; rw [runB_LA]; exact inv_add m c t (by omega) fa hfa _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; rw [View.read_writes_eq_canon _ _ _ (by rw [runB_L6]; exact cover_6 _ _ _ _ _ _ _ ), runB_L6]; rfl
      isplitl [H7]; · iexists _; iexact H7
      isplitl [H8]
      · unfold owns; iexists _; isplitr
        swap; · iexact H8
        ipureintro; rw [View.read_writes_eq_canon _ _ _ (by rw [runB_L8]; exact cover_8 _ _ _ _ _ _ _ ), runB_L8]; rfl
      isplitl [H9]
      · unfold owns; iexists _; isplitr
        swap; · iexact H9
        ipureintro; rw [View.read_writes_eq_canon _ _ _ (by rw [runB_L9]; exact cover_9 _ _ _ _ _ ), runB_L9]; rfl
      unfold owns; iexists _; isplitr
      swap; · iexact H10
      ipureintro; rw [View.read_writes_eq_canon _ _ _ (by rw [runB_L10]; exact cover_10 _ _ _ _ _ ), runB_L10]; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, and the invariant after the last gives it back. -/
theorem hin (c : Dev nD) : Pipeline.ΦA spec0 c ⊢ (dats m 0 c).Φ 0 := by
  rw [show (dats m 0 c).Φ 0 = PhiS m c 0 from rfl, PhiA0_eq]
  unfold PhiS
  iintro ⟨⟨HS0, HS1, ⟨%f, HS2⟩⟩, Hg⟩
  isplitl [HS0 HS1 HS2]
  · isplitl [HS0]
    · iexact HS0
    isplitl [HS1]
    · iexact HS1
    iexists f; isplitr
    · ipureintro; exact inv_zero m c f
    iexact HS2
  iexact Hg
theorem hout (c : Dev nD) : (dats m 0 c).Φ (Fin.last cfg0.N) ⊢ Pipeline.ΦA spec0 c := by
  rw [show (dats m 0 c).Φ (Fin.last cfg0.N) = PhiS m c cfg0.N from rfl, PhiA0_eq]
  unfold PhiS
  iintro ⟨⟨HS0, HS1, ⟨%f, -, HS2⟩⟩, Hg⟩
  isplitl [HS0 HS1 HS2]
  · isplitl [HS0]
    · iexact HS0
    isplitl [HS1]
    · iexact HS1
    iexists _; iexact HS2
  iexact Hg

set_option backward.isDefEq.respectTransparency.types false in
set_option maxHeartbeats 800000 in
/-- Every run ends with the arrays as the proof data say and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Val.Math.lean ====
/- The arithmetic of one row: one batch, one token, one head. A row has 96 key entries, 48 cosines and 48 sines, the
   head's parameter, 96 cotangent codes and their common scale, all of them extended reals. The results are written twice,
   in the reference's form and in the kernel's form, and the two forms are proved equal. -/
module

public import Idealize.ShloMosaic.PureOps.Ideal.Laws

@[expose] public section

noncomputable section

namespace Cert.Row

open Idealize.ShloMosaic

/-- One row's data. -/
structure Row where
  /-- the key -/
  x : Fin 96 → EReal
  /-- the cosines -/
  c : Fin 48 → EReal
  /-- the sines -/
  s : Fin 48 → EReal
  /-- the head's parameter -/
  al : EReal
  /-- the cotangent codes -/
  q : Fin 96 → EReal
  /-- the cotangent's scale -/
  gs : EReal

/-- The constant 7, and round to nearest with ties to even. -/
abbrev seven : EReal := ((7 : ℝ) : EReal)
abbrev rnd (x : EReal) : EReal := Ideal.liftRound Ideal.roundHalfEven x
/-- Clip to [-7, 7]. -/
def clip (x : EReal) : EReal := min seven (max (-seven) x)

/-- The entry `j` of the first half and of the second half. -/
def lo (j : Fin 48) : Fin 96 := ⟨j.val, by omega⟩
def hi (j : Fin 48) : Fin 96 := ⟨48 + j.val, by omega⟩
/-- Glue two halves. -/
def glue (a b : Fin 48 → EReal) (d : Fin 96) : EReal :=
  if h : d.val < 48 then a ⟨d.val, h⟩ else b ⟨d.val - 48, by omega⟩

namespace Row
variable (R : Row)

/-- The rotated key, its largest magnitude, the scale, the ratio, the clipped code. -/
def kr : Fin 96 → EReal :=
  glue (fun j => R.x (lo j) * R.c j - R.x (hi j) * R.s j) (fun j => R.x (hi j) * R.c j + R.x (lo j) * R.s j)
def am : EReal := (Finset.univ : Finset (Fin 96)).fold max (⊥ : EReal) (fun d => max (R.kr d) (-(R.kr d)))
def sc : EReal := if R.am = 0 then 1 else Ideal.div (R.al * R.am) seven
def r (d : Fin 96) : EReal := Ideal.div (R.kr d) R.sc
def cf (d : Fin 96) : EReal := clip (rnd (R.r d))
/-- Whether the ratio is in range. -/
def ins (d : Fin 96) : Prop := max (R.r d) (-(R.r d)) ≤ seven
instance (d : Fin 96) : Decidable (R.ins d) := inferInstanceAs (Decidable (_ ≤ _))
/-- The cotangent passed on, the parameter's term, the token gradient, the key gradient. -/
def gin (d : Fin 96) : EReal := if R.ins d then R.q d * R.gs else 0
def term (d : Fin 96) : EReal := if R.ins d then R.cf d - R.r d else R.cf d
def tok : EReal := (∑ d : Fin 96, R.q d * R.gs * R.term d) * Ideal.div R.am seven
def dk : Fin 96 → EReal :=
  glue (fun j => R.gin (lo j) * R.c j + R.gin (hi j) * R.s j) (fun j => R.gin (hi j) * R.c j - R.gin (lo j) * R.s j)

/-- The same in the kernel's form: a multiplication by 1/7, one by the reciprocal of the scale, the clip before the
    rounding, the range test as a fixed-point test, the cotangent's scale applied after the sums. -/
def scK : EReal := if R.am = 0 then 1 else (R.al * R.am) * ((1 / 7 : ℝ) : EReal)
def rK (d : Fin 96) : EReal := R.kr d * Ideal.div 1 R.scK
def cfK (d : Fin 96) : EReal := rnd (clip (R.rK d))
def ginK (d : Fin 96) : EReal := if clip (R.rK d) = R.rK d then R.q d else 0
def termK (d : Fin 96) : EReal := R.cfK d - (if clip (R.rK d) = R.rK d then R.rK d else 0)
def tokK : EReal := (∑ d : Fin 96, R.q d * R.termK d) * R.gs * (R.am * ((1 / 7 : ℝ) : EReal))
def dkK : Fin 96 → EReal :=
  glue (fun j => (R.ginK (lo j) * R.c j + R.ginK (hi j) * R.s j) * R.gs)
    (fun j => (R.ginK (hi j) * R.c j - R.ginK (lo j) * R.s j) * R.gs)

end Row

/-- Division by 7 is the multiplication by 1/7. -/
theorem div_seven (x : EReal) : Ideal.div x seven = x * ((1 / 7 : ℝ) : EReal) := Ideal.div_coe (by norm_num) x

/-- A rounding stays on the side of an integer on which its argument is. -/
theorem le_roundHalfEven {n : ℤ} {r : ℝ} (h : (n : ℝ) ≤ r) : (n : ℝ) ≤ Ideal.roundHalfEven r := by
  have h1 : n ≤ ⌊r⌋ := Int.le_floor.2 h
  have : n ≤ Ideal.roundHalfEven r := by
    unfold Ideal.roundHalfEven; dsimp only; split_ifs <;> omega
  exact_mod_cast this
theorem roundHalfEven_le {n : ℤ} {r : ℝ} (h : r ≤ (n : ℝ)) : (Ideal.roundHalfEven r : ℝ) ≤ (n : ℝ) := by
  have h1 : ⌊r⌋ ≤ n := by
    have := (Int.floor_le r).trans h
    exact_mod_cast this
  have : Ideal.roundHalfEven r ≤ n := by
    rcases lt_or_eq_of_le h1 with h2 | h2
    · unfold Ideal.roundHalfEven; dsimp only; split_ifs <;> omega
    · have h3 : r - (⌊r⌋ : ℝ) < 1 / 2 := by rw [h2]; linarith
      unfold Ideal.roundHalfEven; dsimp only; rw [if_pos h3]; exact h1
  exact_mod_cast this

/-- Clip and rounding commute. -/
theorem rnd_clip (x : EReal) : rnd (clip x) = clip (rnd x) := by
  have hs : ∀ a b : ℝ, clip ((a : ℝ) : EReal) = ((min 7 (max (-7) a) : ℝ) : EReal) := by
    intro a _
    unfold clip seven
    rw [← EReal.coe_neg, ← EReal.coe_strictMono.monotone.map_max, ← EReal.coe_strictMono.monotone.map_min]
  have h7 : Ideal.roundHalfEven 7 = 7 := by
    have a := le_roundHalfEven (n := 7) (r := 7) (by norm_num)
    have b := roundHalfEven_le (n := 7) (r := 7) (by norm_num)
    have : ((Ideal.roundHalfEven 7 : ℤ) : ℝ) = ((7 : ℤ) : ℝ) := le_antisymm b a
    exact_mod_cast this
  have hm7 : Ideal.roundHalfEven (-7) = -7 := by
    have a := le_roundHalfEven (n := -7) (r := -7) (by norm_num)
    have b := roundHalfEven_le (n := -7) (r := -7) (by norm_num)
    have : ((Ideal.roundHalfEven (-7) : ℤ) : ℝ) = ((-7 : ℤ) : ℝ) := le_antisymm b a
    exact_mod_cast this
  induction x using EReal.rec with
  | bot =>
    have : clip ⊥ = ((-7 : ℝ) : EReal) := by
      unfold clip seven
      rw [max_eq_left bot_le, ← EReal.coe_neg, min_eq_right (EReal.coe_le_coe_iff.2 (by norm_num))]
    simp only [rnd, Ideal.liftRound_bot, this, Ideal.liftRound_coe, hm7]
    norm_num
  | top =>
    have : clip ⊤ = ((7 : ℝ) : EReal) := by
      unfold clip seven
      rw [max_eq_right le_top, min_eq_left le_top]
    simp only [rnd, Ideal.liftRound_top, this, Ideal.liftRound_coe, h7]
    norm_num
  | coe a =>
    simp only [rnd, hs _ 0, Ideal.liftRound_coe]
    congr 1
    rcases le_total a (-7) with h | h
    · have h1 := roundHalfEven_le (n := -7) (r := a) (by exact_mod_cast h)
      push_cast at h1
      rw [max_eq_left h, max_eq_left h1, min_eq_right (by norm_num), hm7]; norm_num
    · have h1 := le_roundHalfEven (n := -7) (r := a) (by exact_mod_cast h)
      push_cast at h1
      rw [max_eq_right h, max_eq_right h1]
      rcases le_total a 7 with h2 | h2
      · have h3 := roundHalfEven_le (n := 7) (r := a) (by exact_mod_cast h2)
        push_cast at h3
        rw [min_eq_right h2, min_eq_right h3]
      · have h3 := le_roundHalfEven (n := 7) (r := a) (by exact_mod_cast h2)
        push_cast at h3
        rw [min_eq_left h2, min_eq_left h3, h7]; norm_num

/-- A number is a fixed point of the clip exactly if its magnitude is at most 7. -/
theorem clip_eq_iff (x : EReal) : clip x = x ↔ max x (-x) ≤ seven := by
  have hs : -seven ≤ seven := by
    unfold seven; rw [← EReal.coe_neg]; exact EReal.coe_le_coe_iff.2 (by norm_num)
  rw [max_le_iff, EReal.neg_le]
  unfold clip
  constructor
  · intro h
    constructor
    · rw [← h]; exact min_le_left _ _
    · rw [← h]; exact le_min hs (le_max_left _ _)
  · rintro ⟨h1, h2⟩
    rw [max_eq_right h2, min_eq_right h1]

/-- A rounded and clipped number is an integer in [-7, 7]. -/
theorem clip_rnd_int (x : EReal) : ∃ n : ℤ, -7 ≤ n ∧ n ≤ 7 ∧ clip (rnd x) = ((n : ℝ) : EReal) := by
  have hc : ∀ a : ℝ, clip ((a : ℝ) : EReal) = ((min 7 (max (-7) a) : ℝ) : EReal) := by
    intro a
    unfold clip seven
    rw [← EReal.coe_neg, ← EReal.coe_strictMono.monotone.map_max, ← EReal.coe_strictMono.monotone.map_min]
  induction x using EReal.rec with
  | bot =>
    refine ⟨-7, by norm_num, by norm_num, ?_⟩
    unfold clip seven
    rw [rnd, Ideal.liftRound_bot, max_eq_left bot_le, ← EReal.coe_neg, min_eq_right (EReal.coe_le_coe_iff.2 (by norm_num))]
    norm_num
  | top =>
    refine ⟨7, by norm_num, by norm_num, ?_⟩
    unfold clip seven
    rw [rnd, Ideal.liftRound_top, max_eq_right le_top, min_eq_left le_top]
    norm_num
  | coe a =>
    refine ⟨min 7 (max (-7) (Ideal.roundHalfEven a)), by omega, by omega, ?_⟩
    rw [rnd, Ideal.liftRound_coe, hc]
    push_cast
    rfl

namespace Row
variable (R : Row)

theorem scK_eq : R.scK = R.sc := by unfold scK sc; rw [div_seven]

theorem sc_ne (h : R.al ≠ 0) : R.sc ≠ 0 := by
  rw [← scK_eq]; unfold scK
  split_ifs with h0
  · exact one_ne_zero
  · exact mul_ne_zero (mul_ne_zero h h0) (by exact_mod_cast (by norm_num : (1 / 7 : ℝ) ≠ 0))

theorem rK_eq (h : R.al ≠ 0) (d : Fin 96) : R.rK d = R.r d := by
  unfold rK r; rw [scK_eq, Ideal.div, Ideal.div, if_neg (R.sc_ne h), if_neg (R.sc_ne h), one_mul]

theorem cfK_eq (h : R.al ≠ 0) (d : Fin 96) : R.cfK d = R.cf d := by
  unfold cfK cf; rw [rK_eq R h, rnd_clip]

theorem termK_eq (h : R.al ≠ 0) (d : Fin 96) : R.termK d = R.term d := by
  unfold termK term
  rw [cfK_eq R h, rK_eq R h]
  by_cases hi : R.ins d
  · rw [if_pos hi, if_pos ((clip_eq_iff _).2 hi)]
  · rw [if_neg hi, if_neg (fun h => hi ((clip_eq_iff _).1 h)), sub_zero]

theorem gin_eq (h : R.al ≠ 0) (d : Fin 96) : R.gin d = R.ginK d * R.gs := by
  unfold gin ginK
  rw [rK_eq R h]
  by_cases hi : R.ins d
  · rw [if_pos hi, if_pos ((clip_eq_iff _).2 hi)]
  · rw [if_neg hi, if_neg (fun h => hi ((clip_eq_iff _).1 h)), zero_mul]

/-- A finite nonnegative factor goes through a finite sum. -/
theorem sum_mul_of_nonneg {ι : Type} (s : Finset ι) (f : ι → EReal) {a : EReal} (h0 : 0 ≤ a) (ht : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h0 ht, ih]

/-- The kernel's token gradient is the reference's. -/
theorem tokK_eq (h : R.al ≠ 0) (h0 : 0 ≤ R.gs) (ht : R.gs ≠ ⊤) : R.tokK = R.tok := by
  unfold tokK tok
  rw [div_seven, sum_mul_of_nonneg _ _ h0 ht]
  congr 1
  refine Finset.sum_congr rfl fun d _ => ?_
  rw [termK_eq R h, mul_right_comm]

/-- The kernel's key gradient is the reference's. -/
theorem dkK_eq (h : R.al ≠ 0) (h0 : 0 ≤ R.gs) (ht : R.gs ≠ ⊤) : R.dkK = R.dk := by
  unfold dkK dk
  have e1 : ∀ a b : EReal, (a + b) * R.gs = a * R.gs + b * R.gs := fun a b =>
    EReal.right_distrib_of_nonneg_of_ne_top h0 ht a b
  congr 1 <;> funext j
  · rw [gin_eq R h, gin_eq R h, e1, mul_right_comm, mul_right_comm (R.ginK (hi j))]
  · rw [gin_eq R h, gin_eq R h, sub_eq_add_neg, sub_eq_add_neg, e1, mul_right_comm, EReal.neg_mul,
      mul_right_comm (R.ginK (lo j))]

/-- The kernel's codes are integers in [-7, 7]. -/
theorem cf_int (d : Fin 96) : ∃ n : ℤ, -7 ≤ n ∧ n ≤ 7 ∧ R.cf d = ((n : ℝ) : EReal) := clip_rnd_int _

end Row

end Cert.Row

end
-- ==== Proof.Val.Spec.lean ====
/- The five results as functions of the six arguments, array by array, from the row arithmetic of Math.lean: row
   (b, t, h) is batch b, token t, head h. Both programs are proved to compute these arrays. -/
module

public import proofs.«01_k».proof.Proof.Val.Math
public import Idealize.ShloMosaic.Lib.Pointwise

@[expose] public section

noncomputable section

namespace Cert.Row

open Idealize.ShloMosaic

/-- Entry `d` of head `h` in a row of 6144. -/
def col (h : Fin 64) (d : Fin 96) : Fin 6144 := ⟨h.val * 96 + d.val, by omega⟩
/-- The even and the odd entry that share byte `j`. -/
def ev (j : Fin 48) : Fin 96 := ⟨2 * j.val, by omega⟩
def od (j : Fin 48) : Fin 96 := ⟨1 + 2 * j.val, by omega⟩

/-- Two codes in one byte: the low four bits of each, the second above the first. -/
def pack (a b : EReal) : BitVec 8 :=
  (((Ideal.fptosi 8 a).signExtend 32 &&& 15#32) ||| (((Ideal.fptosi 8 b).signExtend 32 &&& 15#32) <<< 4)).setWidth 8

variable (X : (⟨3, ![6, 256, 6144]⟩ : Shape).Idx → EReal) (C S : (⟨3, ![6, 256, 48]⟩ : Shape).Idx → EReal)
  (A : (⟨1, ![64]⟩ : Shape).Idx → EReal) (Q : (⟨4, ![6, 256, 64, 96]⟩ : Shape).Idx → EReal)
  (G : (⟨3, ![6, 256, 64]⟩ : Shape).Idx → EReal)

/-- The row (b, t, h) of the arguments. -/
def rowOf (b : Fin 6) (t : Fin 256) (h : Fin 64) : Row where
  x d := X (ix3 b t (col h d))
  c j := C (ix3 b t j)
  s j := S (ix3 b t j)
  al := A (ix1 h)
  q d := Q (ix4 b t h d)
  gs := G (ix3 b t h)

/-- The key gradient, the parameter's gradient, the token gradient, the packed codes, the scales. -/
def dkA (i : (⟨3, ![6, 256, 6144]⟩ : Shape).Idx) : EReal :=
  (rowOf X C S A Q G (i 0) (i 1) ⟨(i 2).val / 96, by have : (i 2).val < 6144 := (i 2).isLt; omega⟩).dk
    ⟨(i 2).val % 96, Nat.mod_lt _ (by norm_num)⟩
def dalA (i : (⟨1, ![64]⟩ : Shape).Idx) : EReal := ∑ b : Fin 6, ∑ t : Fin 256, (rowOf X C S A Q G b t (i 0)).tok
def tokA (i : (⟨3, ![6, 256, 64]⟩ : Shape).Idx) : EReal := (rowOf X C S A Q G (i 0) (i 1) (i 2)).tok
def codeA (i : (⟨4, ![6, 256, 64, 48]⟩ : Shape).Idx) : BitVec 8 :=
  pack ((rowOf X C S A Q G (i 0) (i 1) (i 2)).cf (ev (i 3))) ((rowOf X C S A Q G (i 0) (i 1) (i 2)).cf (od (i 3)))
def scA (i : (⟨3, ![6, 256, 64]⟩ : Shape).Idx) : EReal := (rowOf X C S A Q G (i 0) (i 1) (i 2)).sc

theorem dkA_apply (b : Fin 6) (t : Fin 256) (h : Fin 64) (d : Fin 96) :
    dkA X C S A Q G (ix3 b t (col h d)) = (rowOf X C S A Q G b t h).dk d := by
  have e1 : (⟨(h.val * 96 + d.val) / 96, by omega⟩ : Fin 64) = h := Fin.ext (show _ / 96 = _ by omega)
  have e2 : (⟨(h.val * 96 + d.val) % 96, Nat.mod_lt _ (by norm_num)⟩ : Fin 96) = d := Fin.ext (show _ % 96 = _ by omega)
  show (rowOf X C S A Q G b t ⟨(h.val * 96 + d.val) / 96, _⟩).dk ⟨(h.val * 96 + d.val) % 96, _⟩ = _
  rw [e1, e2]

/-! ## Arrays are equal when they are equal at every coordinate -/

theorem ext1 {α : Type} {a : ℕ} {f g : (⟨1, ![a]⟩ : Shape).Idx → α} (h : ∀ i : Fin a, f (ix1 i) = g (ix1 i)) : f = g :=
  funext fun i => by have := h (i 0); rwa [ix1_eta] at this
theorem ext3 {α : Type} {a b c : ℕ} {f g : (⟨3, ![a, b, c]⟩ : Shape).Idx → α}
    (h : ∀ (i : Fin a) (j : Fin b) (k : Fin c), f (ix3 i j k) = g (ix3 i j k)) : f = g :=
  funext fun i => by have := h (i 0) (i 1) (i 2); rwa [ix3_eta] at this
theorem ext4 {α : Type} {a b c d : ℕ} {f g : (⟨4, ![a, b, c, d]⟩ : Shape).Idx → α}
    (h : ∀ (i : Fin a) (j : Fin b) (k : Fin c) (l : Fin d), f (ix4 i j k l) = g (ix4 i j k l)) : f = g :=
  funext fun i => by have := h (i 0) (i 1) (i 2) (i 3); rwa [ix4_eta] at this
theorem extCol {α : Type} {a b : ℕ} {f g : (⟨3, ![a, b, 6144]⟩ : Shape).Idx → α}
    (h : ∀ (i : Fin a) (j : Fin b) (k : Fin 64) (d : Fin 96), f (ix3 i j (col k d)) = g (ix3 i j (col k d))) : f = g :=
  ext3 fun i j e => by
    have e' : col ⟨e.val / 96, by omega⟩ ⟨e.val % 96, Nat.mod_lt _ (by norm_num)⟩ = e := Fin.ext (Nat.div_add_mod' e.val 96)
    have := h i j ⟨e.val / 96, by omega⟩ ⟨e.val % 96, Nat.mod_lt _ (by norm_num)⟩
    rwa [e'] at this

/-! ## Constants and selections -/

theorem bits_seven : Ideal.ofBits .f32 0x40E00000#32 = seven := by
  simp [Ideal.ofBits, Ideal.ieee, -EReal.coe_mul]; norm_num
theorem bits_mseven : Ideal.ofBits .f32 0xC0E00000#32 = -seven := by
  simp [Ideal.ofBits, Ideal.ieee, -EReal.coe_mul, seven]; norm_num
theorem bits_one : Ideal.ofBits .f32 0x3F800000#32 = 1 := by
  simp [Ideal.ofBits, Ideal.ieee, -EReal.coe_mul]; norm_num
theorem bits_bot : Ideal.ofBits .f32 0xFF800000#32 = ⊥ := by
  simp [Ideal.ofBits, Ideal.ieee, -EReal.coe_mul]
theorem bits_top : Ideal.ofBits .f32 0x7F800000#32 = ⊤ := by
  simp [Ideal.ofBits, Ideal.ieee, -EReal.coe_mul]
theorem bits_zero : Ideal.ofBits .f32 0x00000000#32 = 0 := by simp
theorem bits_136 : Ideal.ofBits .f32 0x43080000#32 = ((136 : ℝ) : EReal) := by
  simp [Ideal.ofBits, Ideal.ieee, -EReal.coe_mul]; norm_num

/-- A selection by a decided proposition is an if. -/
theorem sel_ofBool {α : Type} (p : Prop) [Decidable p] (a b : α) :
    Scalar.select (BitVec.ofBool (decide p)) a b = if p then a else b := by
  unfold Scalar.select
  by_cases h : p <;> simp [h]

/-! ## The codes -/

/-- An integer in [-7, 7] survives the conversion to eight bits and back. -/
theorem fptosi8_int (n : ℤ) (h1 : -7 ≤ n) (h2 : n ≤ 7) : Ideal.fptosi 8 ((n : ℝ) : EReal) = BitVec.ofInt 8 n := by
  unfold Ideal.fptosi
  rw [Ideal.toIntClamped_coe]
  congr 1
  have : (if (0 : ℝ) ≤ (n : ℝ) then ⌊(n : ℝ)⌋ else ⌈(n : ℝ)⌉) = n := by split_ifs <;> simp
  rw [this]
  norm_num
  omega
theorem sitofp_fptosi8 (n : ℤ) (h1 : -7 ≤ n) (h2 : n ≤ 7) :
    (((Ideal.fptosi 8 ((n : ℝ) : EReal)).toInt : ℝ) : EReal) = ((n : ℝ) : EReal) := by
  rw [fptosi8_int n h1 h2]
  have : (BitVec.ofInt 8 n).toInt = n := by
    rw [BitVec.toInt_ofInt]
    exact Int.bmod_eq_of_le (by norm_num; omega) (by norm_num; omega)
  rw [this]
theorem fptosi32_int (n : ℤ) (h1 : 0 ≤ n) (h2 : n ≤ 300) : Ideal.fptosi 32 ((n : ℝ) : EReal) = BitVec.ofInt 32 n := by
  unfold Ideal.fptosi
  rw [Ideal.toIntClamped_coe]
  congr 1
  have : (if (0 : ℝ) ≤ (n : ℝ) then ⌊(n : ℝ)⌋ else ⌈(n : ℝ)⌉) = n := by split_ifs <;> simp
  rw [this]
  norm_num
  omega

/-- The 225 pairs of codes: shifting the sum `a + 16 b` by 136 and flipping two bits packs them. -/
theorem pack_words : ∀ a b : Fin 15,
    ((BitVec.ofInt 32 ((a.val : ℤ) - 7 + 16 * ((b.val : ℤ) - 7) + 136)) ^^^ 136#32).setWidth 8
      = ((((BitVec.ofInt 8 ((a.val : ℤ) - 7)).signExtend 32 &&& 15#32)
        ||| (((BitVec.ofInt 8 ((b.val : ℤ) - 7)).signExtend 32 &&& 15#32) <<< 4)).setWidth 8) := by
  decide +kernel

/-- The kernel's byte, made of the sum of the codes weighted 1 and 16, is the two codes packed. -/
theorem pack_eq (x y : EReal) :
    ((Ideal.fptosi 32 ((clip (rnd x) + ((16 : ℝ) : EReal) * clip (rnd y)) + ((136 : ℝ) : EReal))) ^^^ 136#32).setWidth 8
      = pack (clip (rnd x)) (clip (rnd y)) := by
  obtain ⟨a, ha1, ha2, ha⟩ := clip_rnd_int x
  obtain ⟨b, hb1, hb2, hb⟩ := clip_rnd_int y
  rw [ha, hb]
  have e : (((a : ℝ) : EReal) + ((16 : ℝ) : EReal) * ((b : ℝ) : EReal)) + ((136 : ℝ) : EReal)
      = (((a + 16 * b + 136 : ℤ) : ℝ) : EReal) := by
    push_cast; rfl
  rw [e, fptosi32_int _ (by omega) (by omega)]
  unfold pack
  rw [fptosi8_int a ha1 ha2, fptosi8_int b hb1 hb2]
  have h := pack_words ⟨(a + 7).toNat, by omega⟩ ⟨(b + 7).toNat, by omega⟩
  have ea : (((a + 7).toNat : ℕ) : ℤ) - 7 = a := by omega
  have eb : (((b + 7).toNat : ℕ) : ℤ) - 7 = b := by omega
  simp only [ea, eb] at h
  exact h

/-- The sum of 96 entries weighted 1 at `2 j`, 16 at `2 j + 1` and 0 elsewhere. -/
theorem sum_nib (f : Fin 96 → EReal) (j : Fin 48) :
    (∑ d : Fin 96, (if d = ev j then 1 else if d = od j then ((16 : ℝ) : EReal) else 0) * f d)
      = f (ev j) + ((16 : ℝ) : EReal) * f (od j) := by
  have hne : od j ≠ ev j := fun h => by have := congrArg Fin.val h; simp [od, ev] at this
  have e : ∀ d : Fin 96, (if d = ev j then 1 else if d = od j then ((16 : ℝ) : EReal) else 0) * f d
      = (if d = ev j then f d else 0) + (if d = od j then ((16 : ℝ) : EReal) * f d else 0) := by
    intro d
    by_cases h1 : d = ev j
    · have h2 : d ≠ od j := fun h => hne (h.symm.trans h1)
      rw [if_pos h1, if_pos h1, if_neg h2, one_mul, add_zero]
    · by_cases h2 : d = od j
      · rw [if_neg h1, if_neg h1, if_pos h2, if_pos h2, zero_add]
      · rw [if_neg h1, if_neg h1, if_neg h2, if_neg h2, zero_mul, zero_add]
  rw [Finset.sum_congr rfl fun d _ => e d, Finset.sum_add_distrib, Finset.sum_ite_eq', Finset.sum_ite_eq']
  simp

/-- The product with a row of the unit matrix picks an entry. -/
theorem sum_eye {n : ℕ} (f : Fin n → EReal) (j : Fin n) : (∑ d : Fin n, (if j = d then (1 : EReal) else 0) * f d) = f j := by
  rw [Finset.sum_eq_single j]
  · rw [if_pos rfl, one_mul]
  · intro d _ h; rw [if_neg (fun e => h e.symm), zero_mul]
  · intro h; exact absurd (Finset.mem_univ _) h

end Cert.Row

end
-- ==== Proof.KernelIdeal.Payload.lean ====
/- The kernel's vectors for one head, read at one index over the extended reals: what each holds at entry `d`, token `t`, in
   terms of its operands at the same token. -/
module

public import proofs.«01_k».proof.Proof.Gen.KernelIdeal.Skeleton
public import proofs.«01_k».proof.Proof.Val.Spec

@[expose] public section

set_option maxRecDepth 16384

noncomputable section

namespace Cert.KernelIdeal.Pay

open Idealize Idealize.ShloMosaic Cert.KernelIdeal Cert.KernelIdeal.Gen Cert.Row

/-- The named constant is one seventh. -/
theorem inv7 : Named.named (F := Ideal) (φ := .f32) Cert.KernelIdeal.κ "inv_qmax" 0x3E124925#32 = ((1 / 7 : ℝ) : EReal) :=
  IdealRules.named_const.ideal_named_scalar _ _ _ _ rfl

theorem bits_16 : Ideal.ofBits .f32 0x41800000#32 = ((16 : ℝ) : EReal) := by
  simp [Ideal.ofBits, Ideal.ieee, -EReal.coe_mul]; norm_num

/-- A comparison of two words, as a choice. -/
theorem sel_cmpi {α : Type} (x y : BitVec 32) (p : Prop) [Decidable p] (h : x = y ↔ p) (a b : α) :
    Scalar.select (IntOp.cmpi CmpIPredicate.eq x y) a b = if p then a else b := by
  unfold Scalar.select IntOp.cmpi
  by_cases e : p
  · rw [if_pos e, if_pos]; simp [h.2 e]
  · rw [if_neg e, if_neg]
    have hb : (x == y) = false := beq_eq_false_iff_ne.2 (mt h.1 e)
    simp [hb]

theorem word_eq {a b : ℕ} (ha : a < 1000) (hb : b < 1000) : BitVec.ofNat 32 a = BitVec.ofNat 32 b ↔ a = b := by
  constructor
  · intro h
    have := congrArg BitVec.toNat h
    simp only [BitVec.toNat_ofNat] at this
    omega
  · intro h; rw [h]

/-! ## The transpositions -/

theorem pay4_apply (i j : Fin 256) : k0_pay4 (F := Ideal) (ix2 i j) = if i = j then 1 else 0 := by
  pointwise [k0_pay4]
  show (((BitVec.setWidth 32 (IntOp.cmpi CmpIPredicate.eq (BitVec.ofNat 32 ↑i) (BitVec.ofNat 32 ↑j))).toInt : ℝ) : EReal) = _
  have e := word_eq (a := i.val) (b := j.val) (by omega) (by omega)
  by_cases h : i = j
  · rw [if_pos h, h]; simp [IntOp.cmpi]
  · have : ¬ BitVec.ofNat 32 i.val = BitVec.ofNat 32 j.val := fun k => h (Fin.ext (e.1 k))
    have hb : (BitVec.ofNat 32 i.val == BitVec.ofNat 32 j.val) = false := beq_eq_false_iff_ne.2 this
    rw [if_neg h]; simp [IntOp.cmpi, hb]

theorem pay5_apply (j : Fin 48) (d : Fin 96) :
    k0_pay5 (F := Ideal) (ix2 j d) = if d = ev j then 1 else if d = od j then ((16 : ℝ) : EReal) else 0 := by
  pointwise [k0_pay5]
  have h2 : IntOp.muli (2#32) (BitVec.ofNat 32 j.val) = BitVec.ofNat 32 (ev j).val := by
    show 2#32 * BitVec.ofNat 32 j.val = BitVec.ofNat 32 (2 * j.val)
    apply BitVec.eq_of_toNat_eq; simp
  have h3 : IntOp.addi (BitVec.ofNat 32 (ev j).val) (1#32) = BitVec.ofNat 32 (od j).val := by
    show BitVec.ofNat 32 (2 * j.val) + 1#32 = BitVec.ofNat 32 (1 + 2 * j.val)
    apply BitVec.eq_of_toNat_eq; simp [Nat.add_comm]
  rw [h2, h3, sel_cmpi _ _ (d = ev j) ((word_eq (by omega) (by omega)).trans ⟨fun h => Fin.ext h, fun h => congrArg Fin.val h⟩),
    sel_cmpi _ _ (d = od j) ((word_eq (by omega) (by omega)).trans ⟨fun h => Fin.ext h, fun h => congrArg Fin.val h⟩), bits_16]

theorem pay6_apply (v : FVec Ideal S1x256x256 .bf16) (i j : Fin 256) : k0_pay6 (F := Ideal) v (ix2 i j) = v (ix3 0 j i) := by
  pointwise [k0_pay6]
  rw [← sum_eye (fun x => v (ix3 0 j x)) i]
  exact Finset.sum_congr rfl fun x _ => by rw [pay4_apply]

theorem pay161_apply (v : FVec Ideal S256x256 .bf16) (i j : Fin 256) :
    k0_pay161 (F := Ideal) k0_pay4 v (ix3 0 i j) = v (ix2 j i) := by
  pointwise [k0_pay161]
  rw [← sum_eye (fun x => v (ix2 j x)) i]
  exact Finset.sum_congr rfl fun x _ => by rw [pay4_apply]

theorem pay9_apply (v : FVec Ideal S1x48x256 .f32) (j : Fin 48) (t : Fin 256) : k0_pay9 (F := Ideal) v (ix2 j t) = v (ix3 0 j t) := by
  pointwise [k0_pay9]
theorem pay10_apply (v : FVec Ideal S1x48x256 .f32) (j : Fin 48) (t : Fin 256) : k0_pay10 (F := Ideal) v (ix2 j t) = v (ix3 0 j t) := by
  pointwise [k0_pay10]

/-! ## The rotated key, the scale, the codes -/

section Head
variable (c s xa xb : FVec Ideal S48x256 .f32) (a : EReal)

theorem pay29_apply (d : Fin 96) (t : Fin 256) : k0_pay29 (F := Ideal) c s xa xb (ix2 d t)
    = glue (fun j => xa (ix2 j t) * c (ix2 j t) - xb (ix2 j t) * s (ix2 j t))
        (fun j => xb (ix2 j t) * c (ix2 j t) + xa (ix2 j t) * s (ix2 j t)) d := by
  pointwise [k0_pay29, glue]

theorem pay30_apply (t : Fin 256) : k0_pay30 (F := Ideal) c s xa xb (ix2 0 t)
    = Finset.univ.fold max ⊥ (fun d : Fin 96 => max (k0_pay29 (F := Ideal) c s xa xb (ix2 d t)) (-(k0_pay29 (F := Ideal) c s xa xb (ix2 d t)))) := by
  pointwise [k0_pay30]
  rw [bits_bot]; rfl

variable (k : FVec Ideal S96x256 .f32) (am ab : FVec Ideal S1x256 .f32) (z : IVec S1x256 1) (t : Fin 256)

theorem pay33_apply : k0_pay33 (F := Ideal) (k0_pay30 c s xa xb) (k0_pay31 c s xa xb) (k0_pay32 a) (ix2 0 t)
    = if k0_pay30 (F := Ideal) c s xa xb (ix2 0 t) = 0 then 1 else (a * k0_pay30 (F := Ideal) c s xa xb (ix2 0 t)) * ((1 / 7 : ℝ) : EReal) := by
  pointwise [k0_pay33, k0_pay31, k0_pay32]
  rw [inv7]

theorem pay34_apply (d : Fin 96) : k0_pay34 (F := Ideal) k am z ab (ix2 d t)
    = k (ix2 d t) * Ideal.div 1 (k0_pay33 (F := Ideal) am z ab (ix2 0 t)) := by
  pointwise [k0_pay34]

theorem pay35_apply (d : Fin 96) : k0_pay35 (F := Ideal) k am z ab (ix2 d t) = clip (k0_pay34 (F := Ideal) k am z ab (ix2 d t)) := by
  pointwise [k0_pay35]
  rw [bits_seven, bits_mseven]; rfl

theorem pay36_apply (d : Fin 96) : k0_pay36 (F := Ideal) k am z ab (ix2 d t) = rnd (clip (k0_pay34 (F := Ideal) k am z ab (ix2 d t))) := by
  rw [← pay35_apply]; rfl

theorem pay39_apply (g : FVec Ideal S1x1x96x256 .fp8e5m2) (d : Fin 96) : k0_pay39 (F := Ideal) k am z ab g (ix2 d t)
    = if clip (k0_pay34 (F := Ideal) k am z ab (ix2 d t)) = k0_pay34 (F := Ideal) k am z ab (ix2 d t) then g (ix4 0 0 d t) else 0 := by
  rw [← pay35_apply]
  pointwise [k0_pay39, k0_pay37, k0_pay38]

theorem pay41_apply (g : FVec Ideal S1x1x96x256 .fp8e5m2) (gs : FVec Ideal S1x1x256 .f32) :
    k0_pay41 (F := Ideal) k am z ab g gs (ix3 0 0 t)
    = (∑ d : Fin 96, g (ix4 0 0 d t) * (k0_pay36 (F := Ideal) k am z ab (ix2 d t)
        - (if clip (k0_pay34 (F := Ideal) k am z ab (ix2 d t)) = k0_pay34 (F := Ideal) k am z ab (ix2 d t) then k0_pay34 (F := Ideal) k am z ab (ix2 d t) else 0)))
        * gs (ix3 0 0 t) * (am (ix2 0 t) * ((1 / 7 : ℝ) : EReal)) := by
  simp only [← pay35_apply]
  pointwise [k0_pay41, k0_pay37, k0_pay38, k0_pay40]
  rw [inv7]

theorem pay42_apply (v : FVec Ideal S1x256 .f32) : k0_pay42 (F := Ideal) v (ix3 0 0 t) = v (ix2 0 t) := by
  pointwise [k0_pay42]

theorem pay45_apply (gi : FVec Ideal S96x256 .f32) (gs : FVec Ideal S1x1x256 .f32) (j : Fin 48) :
    k0_pay45 (F := Ideal) c s gi (k0_pay40 gs) (ix2 j t)
    = (gi (ix2 (lo j) t) * c (ix2 j t) + gi (ix2 (hi j) t) * s (ix2 j t)) * gs (ix3 0 0 t) := by
  pointwise [k0_pay45, k0_pay43, k0_pay44, k0_pay40, lo, hi]

theorem pay46_apply (gi : FVec Ideal S96x256 .f32) (gs : FVec Ideal S1x1x256 .f32) (j : Fin 48) :
    k0_pay46 (F := Ideal) c s gi (k0_pay40 gs) (ix2 j t)
    = (gi (ix2 (hi j) t) * c (ix2 j t) - gi (ix2 (lo j) t) * s (ix2 j t)) * gs (ix3 0 0 t) := by
  pointwise [k0_pay46, k0_pay43, k0_pay44, k0_pay40, lo, hi]

theorem pay47_apply (v : FVec Ideal S96x256 .f32) (j : Fin 48) :
    k0_pay47 (F := Ideal) k0_pay5 v (ix4 0 0 j t)
    = ((Ideal.fptosi 32 ((v (ix2 (ev j) t) + ((16 : ℝ) : EReal) * v (ix2 (od j) t)) + ((136 : ℝ) : EReal))) ^^^ 136#32).setWidth 8 := by
  pointwise [k0_pay47]
  rw [← sum_nib (fun x => v (ix2 x t)) j]
  simp only [pay5_apply]
  rw [bits_136]
  rfl

end Head

/-! ## The accumulator -/

theorem pay1_apply (v : FVec Ideal S8x256 .f32) : k0_pay1 (F := Ideal) v = v := by
  funext i; exact congrFun (shapeCast_self _ _) i
theorem pay2_apply (v : FVec Ideal S8x256 .f32) (w : FVec Ideal S8x256 .f32) (h : Fin 8) (t : Fin 256) :
    k0_pay2 (F := Ideal) v w (ix2 h t) = w (ix2 h t) + v (ix2 h t) := by
  pointwise [k0_pay2]
theorem pay3_apply (v : FVec Ideal S64x256 .f32) (h : Fin 64) : k0_pay3 (F := Ideal) v (ix2 h 0) = ∑ t : Fin 256, v (ix2 h t) := by
  pointwise [k0_pay3]
theorem pay164_apply (v : FVec Ideal S1x8x256 .f32) (h : Fin 8) (t : Fin 256) : k0_pay164 (F := Ideal) v (ix2 h t) = v (ix3 0 h t) := by
  pointwise [k0_pay164]

end Cert.KernelIdeal.Pay

end
-- ==== Proof.KernelIdeal.Block.lean ====
/- What one run of the kernel body leaves in each output block, at one coordinate over the extended reals: the row
   arithmetic in the kernel's form, of the row its input blocks hold for one head and one token. -/
module

public import proofs.«01_k».proof.Proof.KernelIdeal.Frame
public import proofs.«01_k».proof.Proof.KernelIdeal.Payload

@[expose] public section

set_option maxRecDepth 16384

noncomputable section

namespace Cert.KernelIdeal.Body

open Idealize Idealize.ShloMosaic Cert.KernelIdeal Cert.KernelIdeal.Gen Cert.KernelIdeal.Pay Cert.Row
open Idealize.ShloMosaic.Tactic

/-! ## Where a rectangle of stride one puts an index -/

theorem emb2 {A B a b : ℕ} (o p : ℕ) (inb) (x : Fin a) (y : Fin b) (hx : o + x.val < A) (hy : p + y.val < B) :
    (Rect.unit (s := ⟨2, ![A, B]⟩) ![o, p] ![a, b] inb).emb (ix2 x y) = ix2 ⟨o + x.val, hx⟩ ⟨p + y.val, hy⟩ := by
  funext k; apply Fin.ext
  fin_cases k
  · show o + 1 * x.val = o + x.val; omega
  · show p + 1 * y.val = p + y.val; omega
theorem emb3 {A B C a b c : ℕ} (o p q : ℕ) (inb) (x : Fin a) (y : Fin b) (z : Fin c)
    (hx : o + x.val < A) (hy : p + y.val < B) (hz : q + z.val < C) :
    (Rect.unit (s := ⟨3, ![A, B, C]⟩) ![o, p, q] ![a, b, c] inb).emb (ix3 x y z)
      = ix3 ⟨o + x.val, hx⟩ ⟨p + y.val, hy⟩ ⟨q + z.val, hz⟩ := by
  funext k; apply Fin.ext
  fin_cases k
  · show o + 1 * x.val = o + x.val; omega
  · show p + 1 * y.val = p + y.val; omega
  · show q + 1 * z.val = q + z.val; omega
theorem emb4 {A B C D a b c d : ℕ} (o p q r : ℕ) (inb) (x : Fin a) (y : Fin b) (z : Fin c) (w : Fin d)
    (hx : o + x.val < A) (hy : p + y.val < B) (hz : q + z.val < C) (hw : r + w.val < D) :
    (Rect.unit (s := ⟨4, ![A, B, C, D]⟩) ![o, p, q, r] ![a, b, c, d] inb).emb (ix4 x y z w)
      = ix4 ⟨o + x.val, hx⟩ ⟨p + y.val, hy⟩ ⟨q + z.val, hz⟩ ⟨r + w.val, hw⟩ := by
  funext k; apply Fin.ext
  fin_cases k
  · show o + 1 * x.val = o + x.val; omega
  · show p + 1 * y.val = p + y.val; omega
  · show q + 1 * z.val = q + z.val; omega
  · show r + 1 * w.val = r + w.val; omega

/-- Entry `d` of head `h` in a block's 768 columns; head `h` of the point's eight among the 64. -/
def bc (h : Fin 8) (d : Fin 96) : Fin 768 := ⟨96 * h.val + d.val, by omega⟩
def hd (g : Fin 8) (h : Fin 8) : Fin 64 := ⟨8 * g.val + h.val, by omega⟩

section Covers
variable {F : FTy → Type} [FloatOps F] [Named F]
variable (i : grid0.Coords) (x0 : Vec F S1x256x768 .bf16) (x1 x2 : Vec F S1x48x256 .f32) (x3 : Vec F S64 .f32)
  (x4 : Vec F S1x8x96x256 .fp8e5m2) (x5 : Vec F S1x8x256 .f32)

/-- The pieces of the two transposed blocks cover them. -/
theorem cover_X : ∀ y, ∃ p ∈ lstX x0, y ∈ p.1.set := fun y =>
  View.cover_of_tiledL (lstX x0) S256x256.size (by sl_kernel_rfl) y
theorem cover_D : ∀ y, ∃ p ∈ lstD i x0 x1 x2 x3 x4 x5, y ∈ p.1.set := fun y =>
  View.cover_of_tiledL (lstD i x0 x1 x2 x3 x4 x5) S48x256.size (by sl_kernel_rfl) y

end Covers

variable (i : grid0.Coords) (x0 : Vec Ideal S1x256x768 .bf16) (x1 x2 : Vec Ideal S1x48x256 .f32) (x3 : Vec Ideal S64 .f32)
  (x4 : Vec Ideal S1x8x96x256 .fp8e5m2) (x5 : Vec Ideal S1x8x256 .f32)

/-- The row the input blocks hold for head `h` and token `t`. -/
def bRow (h : Fin 8) (t : Fin 256) : Row where
  x d := x0 (ix3 0 t (bc h d))
  c j := x1 (ix3 0 j t)
  s j := x2 (ix3 0 j t)
  al := x3 (ix1 (hd (i 1) h))
  q d := x4 (ix4 0 h d t)
  gs := x5 (ix3 0 h t)

/-! ## The loads -/

theorem cosB_apply (j : Fin 48) (t : Fin 256) : cosB (F := Ideal) x1 (ix2 j t) = x1 (ix3 0 j t) := by
  unfold cosB; rw [View.ld_unit_zero (by decide), pay9_apply]
theorem sinB_apply (j : Fin 48) (t : Fin 256) : sinB (F := Ideal) x2 (ix2 j t) = x2 (ix3 0 j t) := by
  unfold sinB; rw [View.ld_unit_zero (by decide), pay10_apply]

theorem xPay_apply (j : Fin 3) (a b : Fin 256) :
    xPay (F := Ideal) x0 j (ix2 a b) = x0 (ix3 0 b ⟨256 * j.val + a.val, by omega⟩) := by
  unfold xPay
  rw [pay6_apply]
  refine congrArg x0 ((emb3 0 0 (256 * j.val) (inbK j) (0 : Fin 1) b a (by omega) (by omega) (by omega)).trans ?_)
  simp

theorem xPay_emb (j : Fin 3) (x : S256x256.Idx) :
    xPay (F := Ideal) x0 j x = (fun y : S768x256.Idx => x0 (ix3 0 (y 1) (y 0)))
      ((Rect.unit (s := S768x256) ![256 * j.val, 0] S256x256.size (inbX j)).emb x) := by
  have h : ∀ a b : Fin 256, xPay (F := Ideal) x0 j (ix2 a b) = (fun y : S768x256.Idx => x0 (ix3 0 (y 1) (y 0)))
      ((Rect.unit (s := S768x256) ![256 * j.val, 0] S256x256.size (inbX j)).emb (ix2 a b)) := fun a b => by
    rw [xPay_apply]
    refine Eq.trans ?_ (congrArg (fun y : S768x256.Idx => x0 (ix3 0 (y 1) (y 0))) (emb2 (256 * j.val) 0 (inbX j) a b (by omega) (by omega)).symm)
    show x0 (ix3 0 b _) = x0 (ix3 0 ⟨0 + b.val, _⟩ ⟨256 * j.val + a.val, _⟩)
    simp
  have := h (x 0) (x 1)
  rwa [ix2_eta] at this

theorem lstX_apply (d : Fin 768) (t : Fin 256) : View.canon (lstX (F := Ideal) x0) (ix2 d t) = x0 (ix3 0 t d) := by
  refine (View.canon_apply_of_pieces (Val := Elt Ideal) (e := .f32) (fun y : S768x256.Idx => x0 (ix3 0 (y 1) (y 0))) (lstX x0) ?_ _ (cover_X x0 _)).trans ?_
  swap
  · rfl
  · unfold lstX
    simp only [List.forall_mem_cons]
    exact ⟨xPay_emb x0 2, xPay_emb x0 1, xPay_emb x0 0, fun _ h => absurd h List.not_mem_nil⟩

theorem xA_apply (h : Fin 8) (j : Fin 48) (t : Fin 256) : xA (F := Ideal) x0 h (ix2 j t) = x0 (ix3 0 t (bc h (lo j))) := by
  unfold xA
  refine (congrArg (View.canon (lstX x0)) (emb2 (96 * h.val) 0 (inbA h) j t (by omega) (by omega))).trans ?_
  rw [lstX_apply]
  simp [bc, lo]
theorem xB_apply (h : Fin 8) (j : Fin 48) (t : Fin 256) : xB (F := Ideal) x0 h (ix2 j t) = x0 (ix3 0 t (bc h (hi j))) := by
  unfold xB
  refine (congrArg (View.canon (lstX x0)) (emb2 (96 * h.val + 48) 0 (inbB h) j t (by omega) (by omega))).trans ?_
  rw [lstX_apply]
  simp [bc, hi, Nat.add_assoc]

theorem alF_apply (h : Fin 8) : alF (F := Ideal) i x3 h = x3 (ix1 (hd (i 1) h)) := by
  unfold alF
  refine congrArg x3 ?_
  funext k; apply Fin.ext
  fin_cases k
  show (k0_off1 i (BitVec.ofNat 32 h.val)) 0 + 1 * 0 = 8 * (i 1).val + h.val
  rw [k0_off1_eq]; rfl

theorem gF_apply (h : Fin 8) (d : Fin 96) (t : Fin 256) : gF (F := Ideal) x4 h (ix4 0 0 d t) = x4 (ix4 0 h d t) := by
  unfold gF
  refine congrArg x4 ((emb4 0 h.val 0 0 (inbG h) (0 : Fin 1) (0 : Fin 1) d t (by omega) (by simp) (by omega) (by omega)).trans ?_)
  simp
theorem gsF_apply (h : Fin 8) (t : Fin 256) : gsF (F := Ideal) x5 h (ix3 0 0 t) = x5 (ix3 0 h t) := by
  unfold gsF
  refine congrArg x5 ((emb3 0 h.val 0 (inbS h) (0 : Fin 1) (0 : Fin 1) t (by omega) (by simp) (by omega)).trans ?_)
  simp

/-! ## What is stored for a head -/

variable (h : Fin 8) (t : Fin 256)

theorem krF_apply (d : Fin 96) : krF (F := Ideal) x0 x1 x2 h (ix2 d t) = (bRow i x0 x1 x2 x3 x4 x5 h t).kr d := by
  unfold krF
  rw [pay29_apply]
  simp only [xA_apply, xB_apply, cosB_apply, sinB_apply]
  rfl
theorem amF_apply : amF (F := Ideal) x0 x1 x2 h (ix2 0 t) = (bRow i x0 x1 x2 x3 x4 x5 h t).am := by
  unfold amF
  rw [pay30_apply]
  have e := krF_apply i x0 x1 x2 x3 x4 x5 h t
  unfold krF at e
  simp only [e]
  rfl
theorem s_apply : k0_pay33 (F := Ideal) (amF x0 x1 x2 h) (zF x0 x1 x2 h) (abF i x3 h) (ix2 0 t) = (bRow i x0 x1 x2 x3 x4 x5 h t).scK := by
  have e := amF_apply i x0 x1 x2 x3 x4 x5 h t
  unfold amF at e ⊢
  unfold zF abF
  rw [pay33_apply, e, alF_apply]
  rfl
theorem r_apply (d : Fin 96) : k0_pay34 (F := Ideal) (krF x0 x1 x2 h) (amF x0 x1 x2 h) (zF x0 x1 x2 h) (abF i x3 h) (ix2 d t)
    = (bRow i x0 x1 x2 x3 x4 x5 h t).rK d := by
  rw [pay34_apply, krF_apply i x0 x1 x2 x3 x4 x5, s_apply i x0 x1 x2 x3 x4 x5]; rfl
theorem cf_apply (d : Fin 96) : k0_pay36 (F := Ideal) (krF x0 x1 x2 h) (amF x0 x1 x2 h) (zF x0 x1 x2 h) (abF i x3 h) (ix2 d t)
    = (bRow i x0 x1 x2 x3 x4 x5 h t).cfK d := by
  rw [pay36_apply, r_apply i x0 x1 x2 x3 x4 x5]; rfl
theorem gin_apply (d : Fin 96) : k0_pay39 (F := Ideal) (krF x0 x1 x2 h) (amF x0 x1 x2 h) (zF x0 x1 x2 h) (abF i x3 h) (gF x4 h) (ix2 d t)
    = (bRow i x0 x1 x2 x3 x4 x5 h t).ginK d := by
  rw [pay39_apply, r_apply i x0 x1 x2 x3 x4 x5, gF_apply]; rfl

theorem sP_apply : sP (F := Ideal) i x0 x1 x2 x3 h (ix3 0 0 t) = (bRow i x0 x1 x2 x3 x4 x5 h t).scK := by
  unfold sP
  rw [pay42_apply, s_apply i x0 x1 x2 x3 x4 x5]
theorem tokP_apply : tokP (F := Ideal) i x0 x1 x2 x3 x4 x5 h (ix3 0 0 t) = (bRow i x0 x1 x2 x3 x4 x5 h t).tokK := by
  unfold tokP
  rw [pay41_apply]
  simp only [r_apply i x0 x1 x2 x3 x4 x5, cf_apply i x0 x1 x2 x3 x4 x5, gF_apply, gsF_apply, amF_apply i x0 x1 x2 x3 x4 x5]
  rfl
theorem codeP_apply (j : Fin 48) : codeP (F := Ideal) i x0 x1 x2 x3 h (ix4 0 0 j t)
    = pack ((bRow i x0 x1 x2 x3 x4 x5 h t).cfK (ev j)) ((bRow i x0 x1 x2 x3 x4 x5 h t).cfK (od j)) := by
  unfold codeP
  rw [pay47_apply, cf_apply i x0 x1 x2 x3 x4 x5, cf_apply i x0 x1 x2 x3 x4 x5]
  unfold Row.cfK
  rw [rnd_clip, rnd_clip, pack_eq]
theorem dAP_apply (j : Fin 48) : dAP (F := Ideal) i x0 x1 x2 x3 x4 x5 h (ix2 j t)
    = ((bRow i x0 x1 x2 x3 x4 x5 h t).ginK (lo j) * (bRow i x0 x1 x2 x3 x4 x5 h t).c j
      + (bRow i x0 x1 x2 x3 x4 x5 h t).ginK (hi j) * (bRow i x0 x1 x2 x3 x4 x5 h t).s j) * (bRow i x0 x1 x2 x3 x4 x5 h t).gs := by
  unfold dAP
  rw [pay45_apply, gin_apply, gin_apply, cosB_apply, sinB_apply, gsF_apply]
  rfl
theorem dBP_apply (j : Fin 48) : dBP (F := Ideal) i x0 x1 x2 x3 x4 x5 h (ix2 j t)
    = ((bRow i x0 x1 x2 x3 x4 x5 h t).ginK (hi j) * (bRow i x0 x1 x2 x3 x4 x5 h t).c j
      - (bRow i x0 x1 x2 x3 x4 x5 h t).ginK (lo j) * (bRow i x0 x1 x2 x3 x4 x5 h t).s j) * (bRow i x0 x1 x2 x3 x4 x5 h t).gs := by
  unfold dBP
  rw [pay46_apply, gin_apply, gin_apply, cosB_apply, sinB_apply, gsF_apply]
  rfl

/-! ## The output blocks -/

theorem blk8_apply : blk8 (F := Ideal) i x0 x1 x2 x3 x4 x5 (ix3 0 h t) = (bRow i x0 x1 x2 x3 x4 x5 h t).tokK := by
  have e : ∀ (k : Fin 8) (x : S1x1x256.Idx), tokP (F := Ideal) i x0 x1 x2 x3 x4 x5 k x
      = (fun y : S1x8x256.Idx => (bRow i x0 x1 x2 x3 x4 x5 (y 1) (y 2)).tokK)
        ((Rect.unit (s := S1x8x256) ![0, k.val, 0] S1x1x256.size (inbS k)).emb x) := fun k x => by
    obtain ⟨u, rfl⟩ : ∃ u : Fin 256, x = ix3 0 0 u := ⟨x 2, by rw [← ix3_eta x]; congr 1 <;> exact Subsingleton.elim _ _⟩
    rw [tokP_apply]
    refine Eq.trans ?_ (congrArg (fun y : S1x8x256.Idx => (bRow i x0 x1 x2 x3 x4 x5 (y 1) (y 2)).tokK)
      (emb3 0 k.val 0 (inbS k) (0 : Fin 1) (0 : Fin 1) u (by omega) (by simp) (by omega)).symm)
    show (bRow i x0 x1 x2 x3 x4 x5 k u).tokK = (bRow i x0 x1 x2 x3 x4 x5 ⟨k.val + 0, _⟩ ⟨0 + u.val, _⟩).tokK
    simp
  unfold blk8
  rw [View.canon_apply_of_pieces (fun y : S1x8x256.Idx => (bRow i x0 x1 x2 x3 x4 x5 (y 1) (y 2)).tokK) _ ?_ _ (cover_8 _ _ _ _ _ _ _ _)]
  · rfl
  · unfold lst8
    simp only [List.forall_mem_cons]
    exact ⟨e 7, e 6, e 5, e 4, e 3, e 2, e 1, e 0, fun _ h => absurd h List.not_mem_nil⟩

theorem blk10_apply : blk10 (F := Ideal) i x0 x1 x2 x3 (ix3 0 h t) = (bRow i x0 x1 x2 x3 x4 x5 h t).scK := by
  have e : ∀ (k : Fin 8) (x : S1x1x256.Idx), sP (F := Ideal) i x0 x1 x2 x3 k x
      = (fun y : S1x8x256.Idx => (bRow i x0 x1 x2 x3 x4 x5 (y 1) (y 2)).scK)
        ((Rect.unit (s := S1x8x256) ![0, k.val, 0] S1x1x256.size (inbS k)).emb x) := fun k x => by
    obtain ⟨u, rfl⟩ : ∃ u : Fin 256, x = ix3 0 0 u := ⟨x 2, by rw [← ix3_eta x]; congr 1 <;> exact Subsingleton.elim _ _⟩
    rw [sP_apply i x0 x1 x2 x3 x4 x5]
    refine Eq.trans ?_ (congrArg (fun y : S1x8x256.Idx => (bRow i x0 x1 x2 x3 x4 x5 (y 1) (y 2)).scK)
      (emb3 0 k.val 0 (inbS k) (0 : Fin 1) (0 : Fin 1) u (by omega) (by simp) (by omega)).symm)
    show (bRow i x0 x1 x2 x3 x4 x5 k u).scK = (bRow i x0 x1 x2 x3 x4 x5 ⟨k.val + 0, _⟩ ⟨0 + u.val, _⟩).scK
    simp
  unfold blk10
  rw [View.canon_apply_of_pieces (fun y : S1x8x256.Idx => (bRow i x0 x1 x2 x3 x4 x5 (y 1) (y 2)).scK) _ ?_ _ (cover_10 _ _ _ _ _ _)]
  · rfl
  · unfold lst10
    simp only [List.forall_mem_cons]
    exact ⟨e 7, e 6, e 5, e 4, e 3, e 2, e 1, e 0, fun _ h => absurd h List.not_mem_nil⟩

theorem blk9_apply (j : Fin 48) : blk9 (F := Ideal) i x0 x1 x2 x3 (ix4 0 h j t)
    = pack ((bRow i x0 x1 x2 x3 x4 x5 h t).cfK (ev j)) ((bRow i x0 x1 x2 x3 x4 x5 h t).cfK (od j)) := by
  let G : S1x8x48x256.Idx → BitVec 8 := fun y =>
    pack ((bRow i x0 x1 x2 x3 x4 x5 (y 1) (y 3)).cfK (ev (y 2))) ((bRow i x0 x1 x2 x3 x4 x5 (y 1) (y 3)).cfK (od (y 2)))
  have e : ∀ (k : Fin 8) (x : S1x1x48x256.Idx), codeP (F := Ideal) i x0 x1 x2 x3 k x
      = G ((Rect.unit (s := S1x8x48x256) ![0, k.val, 0, 0] S1x1x48x256.size (inbC k)).emb x) := fun k x => by
    obtain ⟨w, u, rfl⟩ : ∃ (w : Fin 48) (u : Fin 256), x = ix4 0 0 w u :=
      ⟨x 2, x 3, by rw [← ix4_eta x]; congr 1 <;> exact Subsingleton.elim _ _⟩
    rw [codeP_apply i x0 x1 x2 x3 x4 x5]
    refine Eq.trans ?_ (congrArg G (emb4 0 k.val 0 0 (inbC k) (0 : Fin 1) (0 : Fin 1) w u (by omega) (by simp) (by omega) (by omega)).symm)
    have e1 : (⟨k.val + 0, by omega⟩ : Fin 8) = k := rfl
    have e2 : (⟨0 + w.val, by omega⟩ : Fin 48) = w := Fin.ext (Nat.zero_add _)
    have e3 : (⟨0 + u.val, by omega⟩ : Fin 256) = u := Fin.ext (Nat.zero_add _)
    show _ = pack ((bRow i x0 x1 x2 x3 x4 x5 ⟨k.val + 0, _⟩ ⟨0 + u.val, _⟩).cfK (ev ⟨0 + w.val, _⟩))
      ((bRow i x0 x1 x2 x3 x4 x5 ⟨k.val + 0, _⟩ ⟨0 + u.val, _⟩).cfK (od ⟨0 + w.val, _⟩))
    rw [e1, e2, e3]
  unfold blk9
  rw [View.canon_apply_of_pieces G _ ?_ _ (cover_9 _ _ _ _ _ _)]
  · rfl
  · unfold lst9
    simp only [List.forall_mem_cons]
    exact ⟨e 7, e 6, e 5, e 4, e 3, e 2, e 1, e 0, fun _ h => absurd h List.not_mem_nil⟩

/-- The transposed key gradient. -/
def dT (y : S768x256.Idx) : EReal :=
  (bRow i x0 x1 x2 x3 x4 x5 ⟨(y 0).val / 96, by have : (y 0).val < 768 := (y 0).isLt; omega⟩ (y 1)).dkK
    ⟨(y 0).val % 96, Nat.mod_lt _ (by norm_num)⟩

theorem dT_apply (d : Fin 96) : dT i x0 x1 x2 x3 x4 x5 (ix2 (bc h d) t) = (bRow i x0 x1 x2 x3 x4 x5 h t).dkK d := by
  have e1 : (⟨(96 * h.val + d.val) / 96, by omega⟩ : Fin 8) = h := Fin.ext (show _ / 96 = _ by omega)
  have e2 : (⟨(96 * h.val + d.val) % 96, Nat.mod_lt _ (by norm_num)⟩ : Fin 96) = d := Fin.ext (show _ % 96 = _ by omega)
  show (bRow i x0 x1 x2 x3 x4 x5 ⟨(96 * h.val + d.val) / 96, _⟩ t).dkK ⟨(96 * h.val + d.val) % 96, _⟩ = _
  rw [e1, e2]

theorem glue_lo (a b : Fin 48 → EReal) (j : Fin 48) : glue a b (lo j) = a j := by
  unfold glue; rw [dif_pos (show (lo j).val < 48 from j.isLt)]; rfl
theorem glue_hi (a b : Fin 48 → EReal) (j : Fin 48) : glue a b (hi j) = b j := by
  unfold glue; rw [dif_neg (show ¬ (hi j).val < 48 from by show ¬ 48 + j.val < 48; omega)]
  congr 1; exact Fin.ext (show 48 + j.val - 48 = j.val by omega)

theorem dAP_emb (k : Fin 8) (x : S48x256.Idx) : dAP (F := Ideal) i x0 x1 x2 x3 x4 x5 k x = dT i x0 x1 x2 x3 x4 x5
      ((Rect.unit (s := S768x256) ![96 * k.val, 0] S48x256.size (inbA k)).emb x) := by
  obtain ⟨j, u, rfl⟩ : ∃ (j : Fin 48) (u : Fin 256), x = ix2 j u := ⟨x 0, x 1, (ix2_eta x).symm⟩
  refine Eq.trans ?_ (congrArg (dT i x0 x1 x2 x3 x4 x5) (emb2 (96 * k.val) 0 (inbA k) j u (by omega) (by omega)).symm)
  have e1 : (⟨96 * k.val + j.val, by omega⟩ : Fin 768) = bc k (lo j) := rfl
  have e2 : (⟨0 + u.val, by omega⟩ : Fin 256) = u := Fin.ext (Nat.zero_add _)
  rw [e1, e2, dT_apply, dAP_apply]
  unfold Row.dkK
  rw [glue_lo]
theorem dBP_emb (k : Fin 8) (x : S48x256.Idx) : dBP (F := Ideal) i x0 x1 x2 x3 x4 x5 k x = dT i x0 x1 x2 x3 x4 x5
      ((Rect.unit (s := S768x256) ![96 * k.val + 48, 0] S48x256.size (inbB k)).emb x) := by
  obtain ⟨j, u, rfl⟩ : ∃ (j : Fin 48) (u : Fin 256), x = ix2 j u := ⟨x 0, x 1, (ix2_eta x).symm⟩
  refine Eq.trans ?_ (congrArg (dT i x0 x1 x2 x3 x4 x5) (emb2 (96 * k.val + 48) 0 (inbB k) j u (by omega) (by omega)).symm)
  have e1 : (⟨96 * k.val + 48 + j.val, by omega⟩ : Fin 768) = bc k (hi j) := Fin.ext (Nat.add_assoc _ _ _)
  have e2 : (⟨0 + u.val, by omega⟩ : Fin 256) = u := Fin.ext (Nat.zero_add _)
  rw [e1, e2, dT_apply, dBP_apply]
  unfold Row.dkK
  rw [glue_hi]

theorem lstD_apply (y : S768x256.Idx) : View.canon (lstD (F := Ideal) i x0 x1 x2 x3 x4 x5) y = dT i x0 x1 x2 x3 x4 x5 y := by
  rw [View.canon_apply_of_pieces (dT i x0 x1 x2 x3 x4 x5) _ ?_ _ (cover_D _ _ _ _ _ _ _ _)]
  have a := dAP_emb i x0 x1 x2 x3 x4 x5
  have b := dBP_emb i x0 x1 x2 x3 x4 x5
  unfold lstD
  simp only [List.forall_mem_cons]
  exact ⟨b 7, a 7, b 6, a 6, b 5, a 5, b 4, a 4, b 3, a 3, b 2, a 2, b 1, a 1, b 0, a 0, fun _ h => absurd h List.not_mem_nil⟩

theorem dkP_emb (j : Fin 3) (x : S1x256x256.Idx) : dkP (F := Ideal) i x0 x1 x2 x3 x4 x5 j x
    = (fun y : S1x256x768.Idx => dT i x0 x1 x2 x3 x4 x5 (ix2 (y 2) (y 1)))
      ((Rect.unit (s := S1x256x768) ![0, 0, 256 * j.val] S1x256x256.size (inbK j)).emb x) := by
  obtain ⟨a, b, rfl⟩ : ∃ a b : Fin 256, x = ix3 0 a b := ⟨x 1, x 2, by rw [← ix3_eta x]; congr 1; exact Subsingleton.elim _ _⟩
  unfold dkP
  rw [pay161_apply]
  refine Eq.trans ?_ (congrArg (fun y : S1x256x768.Idx => dT i x0 x1 x2 x3 x4 x5 (ix2 (y 2) (y 1)))
    (emb3 0 0 (256 * j.val) (inbK j) (0 : Fin 1) a b (by omega) (by omega) (by omega)).symm)
  refine (lstD_apply i x0 x1 x2 x3 x4 x5 _).trans (congrArg (dT i x0 x1 x2 x3 x4 x5) ?_)
  refine (emb2 (256 * j.val) 0 (inbX j) b a (by omega) (by omega)).trans ?_
  rfl

theorem blk6_apply (d : Fin 96) : blk6 (F := Ideal) i x0 x1 x2 x3 x4 x5 (ix3 0 t (bc h d)) = (bRow i x0 x1 x2 x3 x4 x5 h t).dkK d := by
  unfold blk6
  rw [View.canon_apply_of_pieces (fun y : S1x256x768.Idx => dT i x0 x1 x2 x3 x4 x5 (ix2 (y 2) (y 1))) _ ?_ _ (cover_6 _ _ _ _ _ _ _ _)]
  · exact dT_apply i x0 x1 x2 x3 x4 x5 h t d
  · have e := dkP_emb i x0 x1 x2 x3 x4 x5
    unfold lst6
    simp only [List.forall_mem_cons]
    exact ⟨e 2, e 1, e 0, fun _ h => absurd h List.not_mem_nil⟩

/-- The token gradients the accumulator adds. -/
theorem partF_apply : partF (F := Ideal) i x0 x1 x2 x3 x4 x5 (ix2 h t) = (bRow i x0 x1 x2 x3 x4 x5 h t).tokK := by
  unfold partF
  rw [pay164_apply, View.ld_unit_zero (by decide)]
  exact blk8_apply i x0 x1 x2 x3 x4 x5 h t

end Cert.KernelIdeal.Body

end
-- ==== Proof.KernelIdeal.Host.lean ====
/- The host operations around the kernel: the transpositions its input arrays come from and its result arrays go through,
   read at a coordinate. -/
module

public import proofs.«01_k».proof.Proof.Gen.KernelIdeal.Frame
public import proofs.«01_k».proof.Proof.Val.Spec
public import Idealize.ShloMosaic.Lib.StableHlo.Run
public import Idealize.ShloMosaic.Lib.Pipeline.FrameSuffix

@[expose] public section

noncomputable section

namespace Cert.KernelIdeal.Body

open Cert.KernelIdeal.Gen Cert.Row
open Idealize Idealize.ShloMosaic Idealize.ShloMosaic.TcCoe Idealize.ShloMosaic.Tactic Idealize.ShloMosaic.StableHlo

variable {F : FTy → Type} [FloatOps F] [Named F]

/-! ## The transpositions -/

def tr48 (a : (⟨S6x256x48, .f32⟩ : BufTy).Contents (Elt F)) : (⟨S6x48x256, .f32⟩ : BufTy).Contents (Elt F) := transpose S6x48x256 [0, 2, 1] a transposes_S6x256x48_S6x48x256_0_2_1
def tr96 (a : (⟨S6x256x64x96, .fp8e5m2⟩ : BufTy).Contents (Elt F)) : (⟨S6x64x96x256, .fp8e5m2⟩ : BufTy).Contents (Elt F) := transpose S6x64x96x256 [0, 2, 3, 1] a transposes_S6x256x64x96_S6x64x96x256_0_2_3_1
def tr64 (a : (⟨S6x256x64, .f32⟩ : BufTy).Contents (Elt F)) : (⟨S6x64x256, .f32⟩ : BufTy).Contents (Elt F) := transpose S6x64x256 [0, 2, 1] a transposes_S6x256x64_S6x64x256_0_2_1
def un64 (a : (⟨S6x64x256, .f32⟩ : BufTy).Contents (Elt F)) : (⟨S6x256x64, .f32⟩ : BufTy).Contents (Elt F) := transpose S6x256x64 [0, 2, 1] a transposes_S6x64x256_S6x256x64_0_2_1
def un48 (a : (⟨S6x64x48x256, .i8⟩ : BufTy).Contents (Elt F)) : (⟨S6x256x64x48, .i8⟩ : BufTy).Contents (Elt F) := transpose S6x256x64x48 [0, 3, 1, 2] a transposes_S6x64x48x256_S6x256x64x48_0_3_1_2
def row1 (a : (⟨S64x1, .f32⟩ : BufTy).Contents (Elt F)) : (⟨S64, .f32⟩ : BufTy).Contents (Elt F) := shapeCast S64 a shapeCasts_S64x1_S64

theorem tr48_apply (a : (⟨S6x256x48, .f32⟩ : BufTy).Contents (Elt F)) (b : Fin 6) (j : Fin 48) (t : Fin 256) : tr48 a (ix3 b j t) = a (ix3 b t j) := by
  pointwise [tr48]
theorem tr96_apply (a : (⟨S6x256x64x96, .fp8e5m2⟩ : BufTy).Contents (Elt F)) (b : Fin 6) (h : Fin 64) (d : Fin 96) (t : Fin 256) :
    tr96 a (ix4 b h d t) = a (ix4 b t h d) := by
  pointwise [tr96]
theorem tr64_apply (a : (⟨S6x256x64, .f32⟩ : BufTy).Contents (Elt F)) (b : Fin 6) (h : Fin 64) (t : Fin 256) : tr64 a (ix3 b h t) = a (ix3 b t h) := by
  pointwise [tr64]
theorem un64_apply (a : (⟨S6x64x256, .f32⟩ : BufTy).Contents (Elt F)) (b : Fin 6) (t : Fin 256) (h : Fin 64) : un64 a (ix3 b t h) = a (ix3 b h t) := by
  pointwise [un64]
theorem un48_apply (a : (⟨S6x64x48x256, .i8⟩ : BufTy).Contents (Elt F)) (b : Fin 6) (t : Fin 256) (h : Fin 64) (j : Fin 48) :
    un48 a (ix4 b t h j) = a (ix4 b h j t) := by
  pointwise [un48]
theorem row1_apply (a : (⟨S64x1, .f32⟩ : BufTy).Contents (Elt F)) (h : Fin 64) : row1 a (ix1 h) = a (ix2 h 0) := by
  pointwise [row1]

/-! ## What the operations leave -/

set_option maxRecDepth 8192 in
set_option maxHeartbeats 4000000 in
theorem pre_v0 (W : Valuation τ sig (Elt F)) :
    after (List.flatten [hostOps0]) W (Proc.devRef .tc main_v0) = tr48 (W (Proc.devRef .tc main_arg1)) := by
  simp only [hostOps0, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v1 (W : Valuation τ sig (Elt F)) :
    after (List.flatten [hostOps0]) W (Proc.devRef .tc main_v1) = tr48 (W (Proc.devRef .tc main_arg2)) := by
  simp only [hostOps0, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v2 (W : Valuation τ sig (Elt F)) :
    after (List.flatten [hostOps0]) W (Proc.devRef .tc main_v2) = tr96 (W (Proc.devRef .tc main_arg4)) := by
  simp only [hostOps0, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v3 (W : Valuation τ sig (Elt F)) :
    after (List.flatten [hostOps0]) W (Proc.devRef .tc main_v3) = tr64 (W (Proc.devRef .tc main_arg5)) := by
  simp only [hostOps0, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v5 (W : Valuation τ sig (Elt F)) :
    after (List.flatten [hostOps1]) W (Proc.devRef .tc main_v5) = row1 (W (Proc.devRef .tc main_v4_1)) := by
  simp only [hostOps1, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v6 (W : Valuation τ sig (Elt F)) :
    after (List.flatten [hostOps1]) W (Proc.devRef .tc main_v6) = un64 (W (Proc.devRef .tc main_v4_2)) := by
  simp only [hostOps1, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v7 (W : Valuation τ sig (Elt F)) :
    after (List.flatten [hostOps1]) W (Proc.devRef .tc main_v7) = un48 (W (Proc.devRef .tc main_v4_3)) := by
  simp only [hostOps1, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v8 (W : Valuation τ sig (Elt F)) :
    after (List.flatten [hostOps1]) W (Proc.devRef .tc main_v8) = un64 (W (Proc.devRef .tc main_v4_4)) := by
  simp only [hostOps1, TRef.binary, TRef.ternary, TRef.unary, TRef.toBuf, TRef.ofBuf, cast_eq, List.flatten_cons, List.flatten_nil, List.append_nil, List.cons_append, List.nil_append]
  after_results_simp <;> rfl

end Cert.KernelIdeal.Body

end
-- ==== Proof.KernelIdeal.Rows.lean ====
/- The blocks the kernel body reads at a grid point, at a coordinate: point (b, g) reads batch b and heads 8 g … 8 g + 7 of
   the arguments, so the row a block holds for a head and a token is the arguments' row. -/
module

public import proofs.«01_k».proof.Proof.KernelIdeal.Block
public import proofs.«01_k».proof.Proof.KernelIdeal.Host
public import Idealize.ShloMosaic.Lib.Pipeline.ValueKit

@[expose] public section

set_option maxRecDepth 16384

noncomputable section

namespace Cert.KernelIdeal.Body

open Idealize Idealize.ShloMosaic Idealize.ShloMosaic.TcCoe Cert.KernelIdeal Cert.KernelIdeal.Gen Cert.Row

/-- The batch and the group of eight heads of a point. -/
def bt (t : Fin cfg0.N) : Fin 6 := ⟨t.val / 8, by have := lt48 t; omega⟩
def gt (t : Fin cfg0.N) : Fin 8 := ⟨t.val % 8, Nat.mod_lt _ (by norm_num)⟩

theorem hd_coords (t : Fin cfg0.N) (h : Fin 8) : hd (grid0.coords t 1) h = hd (gt t) h :=
  Fin.ext (by show 8 * ((grid0.coords t) 1).val + h.val = 8 * (t.val % 8) + h.val; rw [coord1])

theorem ind0 : ∀ t : Fin cfg0.N, win0_0.index t = ![t.val / 8, 0, t.val % 8] := (by decide +kernel : ∀ t : Fin grid0.N, _)
theorem ind1 : ∀ t : Fin cfg0.N, win0_1.index t = ![t.val / 8, 0, 0] := (by decide +kernel : ∀ t : Fin grid0.N, _)
theorem ind2 : ∀ t : Fin cfg0.N, win0_2.index t = ![t.val / 8, 0, 0] := (by decide +kernel : ∀ t : Fin grid0.N, _)
theorem ind3 : ∀ t : Fin cfg0.N, win0_3.index t = ![0] := (by decide +kernel : ∀ t : Fin grid0.N, _)
theorem ind4 : ∀ t : Fin cfg0.N, win0_4.index t = ![t.val / 8, t.val % 8, 0, 0] := (by decide +kernel : ∀ t : Fin grid0.N, _)
theorem ind5 : ∀ t : Fin cfg0.N, win0_5.index t = ![t.val / 8, t.val % 8, 0] := (by decide +kernel : ∀ t : Fin grid0.N, _)
theorem ind6 : ∀ t : Fin cfg0.N, win0_6.index t = ![t.val / 8, 0, t.val % 8] := (by decide +kernel : ∀ t : Fin grid0.N, _)
theorem ind8 : ∀ t : Fin cfg0.N, win0_8.index t = ![t.val / 8, t.val % 8, 0] := (by decide +kernel : ∀ t : Fin grid0.N, _)
theorem ind9 : ∀ t : Fin cfg0.N, win0_9.index t = ![t.val / 8, t.val % 8, 0, 0] := (by decide +kernel : ∀ t : Fin grid0.N, _)
theorem ind10 : ∀ t : Fin cfg0.N, win0_10.index t = ![t.val / 8, t.val % 8, 0] := (by decide +kernel : ∀ t : Fin grid0.N, _)

variable (m : (ℓ : Loc nD τ sig) → Buf (Elt Ideal) ℓ) (c : Dev nD) (t : Fin cfg0.N)

theorem iblk0_apply (y : Fin 256) (h : Fin 8) (d : Fin 96) :
    iblk m c 0 t (ix3 0 y (bc h d)) = m ((c : Thread nD τ).loc main_arg0) (ix3 (bt t) y (col (hd (gt t) h) d)) := by
  show V m c main_arg0 ((win0_0.blk t).view.emb (ix3 0 y (bc h d))) = _
  rw [V_main_arg0]
  refine congrArg _ ?_
  funext a; apply Fin.ext
  fin_cases a <;> blk_simp [ind0]
  · rfl
  · rfl
  · show t.val % 8 * 768 + (96 * h.val + d.val) = (8 * (t.val % 8) + h.val) * 96 + d.val; omega

theorem iblk1_apply (j : Fin 48) (y : Fin 256) :
    iblk m c 1 t (ix3 0 j y) = m ((c : Thread nD τ).loc main_arg1) (ix3 (bt t) y j) := by
  show V m c main_v0 ((win0_1.blk t).view.emb (ix3 0 j y)) = _
  refine Eq.trans ?_ (tr48_apply (F := Ideal) (m ((c : Thread nD τ).loc main_arg1)) (bt t) j y)
  refine (congrFun (pre_v0 (fun b => m (c, b))) _).trans (congrArg (tr48 (F := Ideal) _) ?_)
  funext a; apply Fin.ext
  fin_cases a <;> blk_simp [ind1]
  · rfl
  · rfl
  · rfl

theorem iblk2_apply (j : Fin 48) (y : Fin 256) :
    iblk m c 2 t (ix3 0 j y) = m ((c : Thread nD τ).loc main_arg2) (ix3 (bt t) y j) := by
  show V m c main_v1 ((win0_2.blk t).view.emb (ix3 0 j y)) = _
  refine Eq.trans ?_ (tr48_apply (F := Ideal) (m ((c : Thread nD τ).loc main_arg2)) (bt t) j y)
  refine (congrFun (pre_v1 (fun b => m (c, b))) _).trans (congrArg (tr48 (F := Ideal) _) ?_)
  funext a; apply Fin.ext
  fin_cases a <;> blk_simp [ind2]
  · rfl
  · rfl
  · rfl

theorem iblk3_apply (h : Fin 64) : iblk m c 3 t (ix1 h) = m ((c : Thread nD τ).loc main_arg3) (ix1 h) := by
  show V m c main_arg3 ((win0_3.blk t).view.emb (ix1 h)) = _
  rw [V_main_arg3]
  refine congrArg _ ?_
  funext a; apply Fin.ext
  fin_cases a; blk_simp [ind3]

theorem iblk4_apply (h : Fin 8) (d : Fin 96) (y : Fin 256) :
    iblk m c 4 t (ix4 0 h d y) = m ((c : Thread nD τ).loc main_arg4) (ix4 (bt t) y (hd (gt t) h) d) := by
  show V m c main_v2 ((win0_4.blk t).view.emb (ix4 0 h d y)) = _
  refine Eq.trans ?_ (tr96_apply (F := Ideal) (m ((c : Thread nD τ).loc main_arg4)) (bt t) (hd (gt t) h) d y)
  refine (congrFun (pre_v2 (fun b => m (c, b))) _).trans (congrArg (tr96 (F := Ideal) _) ?_)
  funext a; apply Fin.ext
  fin_cases a <;> blk_simp [ind4]
  · rfl
  · show t.val % 8 * 8 + h.val = 8 * (t.val % 8) + h.val; omega
  · rfl
  · rfl

theorem iblk5_apply (h : Fin 8) (y : Fin 256) :
    iblk m c 5 t (ix3 0 h y) = m ((c : Thread nD τ).loc main_arg5) (ix3 (bt t) y (hd (gt t) h)) := by
  show V m c main_v3 ((win0_5.blk t).view.emb (ix3 0 h y)) = _
  refine Eq.trans ?_ (tr64_apply (F := Ideal) (m ((c : Thread nD τ).loc main_arg5)) (bt t) (hd (gt t) h) y)
  refine (congrFun (pre_v3 (fun b => m (c, b))) _).trans (congrArg (tr64 (F := Ideal) _) ?_)
  funext a; apply Fin.ext
  fin_cases a <;> blk_simp [ind5]
  · rfl
  · show t.val % 8 * 8 + h.val = 8 * (t.val % 8) + h.val; omega
  · rfl

/-- The arguments' row (b, y, h). -/
def argRow (b : Fin 6) (y : Fin 256) (h : Fin 64) : Row :=
  rowOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b y h

/-- The row a point's blocks hold is the arguments' row. -/
theorem bRow_eq (h : Fin 8) (y : Fin 256) :
    bRow (grid0.coords t) (iblk m c 0 t) (iblk m c 1 t) (iblk m c 2 t) (iblk m c 3 t) (iblk m c 4 t) (iblk m c 5 t) h y
      = argRow m c (bt t) y (hd (gt t) h) := by
  unfold bRow argRow rowOf
  congr 1
  · funext d; exact iblk0_apply m c t y h d
  · funext j; exact iblk1_apply m c t j y
  · funext j; exact iblk2_apply m c t j y
  · rw [hd_coords]; exact iblk3_apply m c t _
  · funext d; exact iblk4_apply m c t h d y
  · exact iblk5_apply m c t h y

end Cert.KernelIdeal.Body

end
-- ==== Proof.KernelIdeal.Final.lean ====
/- What the kernel returns: the five arrays of Spec.lean, when no parameter is zero and the cotangents' scales are
   nonnegative and finite. -/
module

public import proofs.«01_k».proof.Proof.KernelIdeal.Rows

@[expose] public section

set_option maxRecDepth 16384

noncomputable section

namespace Cert.KernelIdeal.Body

open Idealize Idealize.ShloMosaic Idealize.ShloMosaic.TcCoe Idealize.SL.Sem Cert.KernelIdeal Cert.KernelIdeal.Gen Cert.KernelIdeal.Pay Cert.Row

variable (m : (ℓ : Loc nD τ sig) → Buf (Elt Ideal) ℓ) (c : Dev nD)

/-! ## The arrays the grid writes, in the kernel's order of axes and the kernel's form -/

def kdk (i : S6x256x6144.Idx) : EReal :=
  (argRow m c (i 0) (i 1) ⟨(i 2).val / 96, by have : (i 2).val < 6144 := (i 2).isLt; omega⟩).dkK
    ⟨(i 2).val % 96, Nat.mod_lt _ (by norm_num)⟩
def ktok (i : S6x64x256.Idx) : EReal := (argRow m c (i 0) (i 2) (i 1)).tokK
def kcode (i : S6x64x48x256.Idx) : BitVec 8 :=
  pack ((argRow m c (i 0) (i 3) (i 1)).cfK (ev (i 2))) ((argRow m c (i 0) (i 3) (i 1)).cfK (od (i 2)))
def ksc (i : S6x64x256.Idx) : EReal := (argRow m c (i 0) (i 2) (i 1)).scK
def kdal (i : S64x1.Idx) : EReal := ∑ y : Fin 256, ∑ b : Fin 6, (argRow m c b y (i 0)).tokK

theorem kdk_apply (b : Fin 6) (y : Fin 256) (h : Fin 64) (d : Fin 96) :
    kdk m c (ix3 b y (col h d)) = (argRow m c b y h).dkK d := by
  have e1 : (⟨(h.val * 96 + d.val) / 96, by omega⟩ : Fin 64) = h := Fin.ext (show _ / 96 = _ by omega)
  have e2 : (⟨(h.val * 96 + d.val) % 96, Nat.mod_lt _ (by norm_num)⟩ : Fin 96) = d := Fin.ext (show _ % 96 = _ by omega)
  show (argRow m c b y ⟨(h.val * 96 + d.val) / 96, _⟩).dkK ⟨(h.val * 96 + d.val) % 96, _⟩ = _
  rw [e1, e2]

theorem arr6_eq : (dats m 0 c).arrAt 6 cfg0.N = kdk m c := by
  refine (dats m 0 c).arrAt_eq_of_covers 6 _ (by decide +kernel) fun t hf y => ?_
  blk_simp
  rw [after_6]
  obtain ⟨u, h, d, rfl⟩ : ∃ (u : Fin 256) (h : Fin 8) (d : Fin 96), y = ix3 0 u (bc h d) :=
    ⟨y 1, ⟨(y 2).val / 96, by have : (y 2).val < 768 := (y 2).isLt; omega⟩, ⟨(y 2).val % 96, Nat.mod_lt _ (by norm_num)⟩, by
      rw [← ix3_eta y]; congr 1
      · exact Subsingleton.elim _ _
      · exact Fin.ext (Nat.div_add_mod (y 2).val 96).symm⟩
  have e : (win0_6.blk t).view.emb (ix3 0 u (bc h d)) = ix3 (bt t) u (col (hd (gt t) h) d) := by
    funext a; apply Fin.ext
    fin_cases a <;> blk_simp [ind6]
    · rfl
    · rfl
    · show t.val % 8 * 768 + (96 * h.val + d.val) = (8 * (t.val % 8) + h.val) * 96 + d.val; omega
  refine Eq.trans ?_ (congrArg (kdk m c) e.symm)
  rw [kdk_apply, ← bRow_eq]
  exact blk6_apply ..

theorem arr8_eq : (dats m 0 c).arrAt 8 cfg0.N = ktok m c := by
  refine (dats m 0 c).arrAt_eq_of_covers 8 _ (by decide +kernel) fun t hf y => ?_
  blk_simp
  rw [after_8]
  obtain ⟨h, u, rfl⟩ : ∃ (h : Fin 8) (u : Fin 256), y = ix3 0 h u :=
    ⟨y 1, y 2, by rw [← ix3_eta y]; congr 1; exact Subsingleton.elim _ _⟩
  have e : (win0_8.blk t).view.emb (ix3 0 h u) = ix3 (bt t) (hd (gt t) h) u := by
    funext a; apply Fin.ext
    fin_cases a <;> blk_simp [ind8]
    · rfl
    · show t.val % 8 * 8 + h.val = 8 * (t.val % 8) + h.val; omega
    · rfl
  refine Eq.trans ?_ (congrArg (ktok m c) e.symm)
  show _ = (argRow m c (bt t) u (hd (gt t) h)).tokK
  rw [← bRow_eq]
  exact blk8_apply ..

theorem arr9_eq : (dats m 0 c).arrAt 9 cfg0.N = kcode m c := by
  refine (dats m 0 c).arrAt_eq_of_covers 9 _ (by decide +kernel) fun t hf y => ?_
  blk_simp
  rw [after_9]
  obtain ⟨h, j, u, rfl⟩ : ∃ (h : Fin 8) (j : Fin 48) (u : Fin 256), y = ix4 0 h j u :=
    ⟨y 1, y 2, y 3, by rw [← ix4_eta y]; congr 1; exact Subsingleton.elim _ _⟩
  have e : (win0_9.blk t).view.emb (ix4 0 h j u) = ix4 (bt t) (hd (gt t) h) j u := by
    funext a; apply Fin.ext
    fin_cases a <;> blk_simp [ind9]
    · rfl
    · show t.val % 8 * 8 + h.val = 8 * (t.val % 8) + h.val; omega
    · rfl
    · rfl
  refine Eq.trans ?_ (congrArg (kcode m c) e.symm)
  show _ = pack ((argRow m c (bt t) u (hd (gt t) h)).cfK (ev j)) ((argRow m c (bt t) u (hd (gt t) h)).cfK (od j))
  rw [← bRow_eq]
  exact blk9_apply ..

theorem arr10_eq : (dats m 0 c).arrAt 10 cfg0.N = ksc m c := by
  refine (dats m 0 c).arrAt_eq_of_covers 10 _ (by decide +kernel) fun t hf y => ?_
  blk_simp
  rw [after_10]
  obtain ⟨h, u, rfl⟩ : ∃ (h : Fin 8) (u : Fin 256), y = ix3 0 h u :=
    ⟨y 1, y 2, by rw [← ix3_eta y]; congr 1; exact Subsingleton.elim _ _⟩
  have e : (win0_10.blk t).view.emb (ix3 0 h u) = ix3 (bt t) (hd (gt t) h) u := by
    funext a; apply Fin.ext
    fin_cases a <;> blk_simp [ind10]
    · rfl
    · show t.val % 8 * 8 + h.val = 8 * (t.val % 8) + h.val; omega
    · rfl
  refine Eq.trans ?_ (congrArg (ksc m c) e.symm)
  show _ = (argRow m c (bt t) u (hd (gt t) h)).scK
  rw [← bRow_eq]
  exact blk10_apply ..

/-! ## The accumulator: the sum over the batches -/

theorem partT_apply (t : Fin cfg0.N) (h : Fin 8) (y : Fin 256) :
    partT m c t (ix2 h y) = (argRow m c (bt t) y (hd (gt t) h)).tokK := by
  rw [← bRow_eq]
  exact partF_apply ..

/-- Row `h` of group `g` after batch `b`: the sum of the token gradients of the batches so far. -/
theorem accG_apply (g h : Fin 8) (y : Fin 256) : ∀ b : ℕ, (hb : b < 6) →
    accG m c g b (ix2 h y) = ∑ k : Fin (b + 1), (argRow m c ⟨k.val, by omega⟩ y (hd g h)).tokK
  | 0, hb => by
    show k0_pay1 (F := Ideal) (partT m c (pt g.val)) (ix2 h y) = _
    rw [pay1_apply, partT_apply]
    have e1 : bt (pt g.val) = 0 := Fin.ext (show g.val % 48 / 8 = 0 by omega)
    have e2 : gt (pt g.val) = g := Fin.ext (show g.val % 48 % 8 = g.val by omega)
    rw [e1, e2]
    simp
  | b + 1, hb => by
    show k0_pay2 (F := Ideal) (partT m c (pt (8 * (b + 1) + g.val))) (accG m c g b) (ix2 h y) = _
    rw [pay2_apply, partT_apply, accG_apply g h y b (by omega)]
    have e1 : bt (pt (8 * (b + 1) + g.val)) = ⟨b + 1, hb⟩ := Fin.ext (show (8 * (b + 1) + g.val) % 48 / 8 = b + 1 by omega)
    have e2 : gt (pt (8 * (b + 1) + g.val)) = g := Fin.ext (show (8 * (b + 1) + g.val) % 48 % 8 = g.val by omega)
    rw [e1, e2, Fin.sum_univ_castSucc (n := b + 1)]
    rfl

theorem accFin_apply (h : Fin 64) (y : Fin 256) :
    accFin m c (ix2 h y) = ∑ b : Fin 6, (argRow m c b y h).tokK := by
  have e := accG_apply m c ⟨h.val / 8, by omega⟩ ⟨h.val % 8, Nat.mod_lt _ (by norm_num)⟩ y 5 (by norm_num)
  have eh : hd ⟨h.val / 8, by omega⟩ ⟨h.val % 8, Nat.mod_lt _ (by norm_num)⟩ = h := Fin.ext (Nat.div_add_mod h.val 8)
  rw [eh] at e
  refine Eq.trans ?_ e
  show accG m c ⟨h.val / 8, _⟩ 5 _ = _
  refine congrArg _ ?_
  funext a
  match a with
  | ⟨0, _⟩ => rfl
  | ⟨1, _⟩ => rfl

theorem arr7_eq : (dats m 0 c).arrAt 7 cfg0.N = kdal m c := by
  refine (dats m 0 c).arrAt_eq_of_after_last 7 (pt 47) (by decide +kernel) _ fun j => ?_
  rw [after_7]
  obtain ⟨h, rfl⟩ : ∃ h : Fin 64, j = ix2 h 0 := ⟨j 0, by rw [← ix2_eta j]; congr 1; exact Subsingleton.elim _ _⟩
  show k0_pay3 (F := Ideal) (accFin m c) _ = kdal m c (ix2 h 0)
  refine Eq.trans (congrArg (k0_pay3 (F := Ideal) (accFin m c)) (?_ : _ = ix2 h 0)) ?_
  · rfl
  rw [pay3_apply]
  simp only [accFin_apply]
  rfl

/-! ## The results -/

/-- The memory the operations after the region start from. -/
abbrev exitV : Valuation τ sig (Elt Ideal) :=
  Pipeline.withArrays spec0 c (V0 m c) fun w => (dats m 0 c).arrAt w cfg0.N

theorem exit_v4_1 : exitV m c (Proc.devRef .tc main_v4_1) = kdal m c :=
  (Pipeline.withArrays_arr spec0 launch0.win.arr_inj c (V0 m c) _ 7).trans (arr7_eq m c)
theorem exit_v4_2 : exitV m c (Proc.devRef .tc main_v4_2) = ktok m c :=
  (Pipeline.withArrays_arr spec0 launch0.win.arr_inj c (V0 m c) _ 8).trans (arr8_eq m c)
theorem exit_v4_3 : exitV m c (Proc.devRef .tc main_v4_3) = kcode m c :=
  (Pipeline.withArrays_arr spec0 launch0.win.arr_inj c (V0 m c) _ 9).trans (arr9_eq m c)
theorem exit_v4_4 : exitV m c (Proc.devRef .tc main_v4_4) = ksc m c :=
  (Pipeline.withArrays_arr spec0 launch0.win.arr_inj c (V0 m c) _ 10).trans (arr10_eq m c)

/-- The five specified arrays of the arguments. -/
def rDk := dkA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def rDal := dalA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def rTok := tokA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def rCode := codeA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
def rSc := Cert.Row.scA (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

section Results

/-- No parameter is zero; every scale is nonnegative and finite. -/
structure Good : Prop where
  al : ∀ b y h, (argRow m c b y h).al ≠ 0
  gs0 : ∀ b y h, 0 ≤ (argRow m c b y h).gs
  gst : ∀ b y h, (argRow m c b y h).gs ≠ ⊤

variable (hg : Good m c)
include hg

theorem fin_v4_0 : kdk m c = rDk m c := extCol fun b y h d => by
  rw [kdk_apply]
  refine Eq.trans ?_ (dkA_apply ..).symm
  rw [(argRow m c b y h).dkK_eq (hg.al b y h) (hg.gs0 b y h) (hg.gst b y h)]
  rfl

theorem fin_v5 : Pipeline.afterTail₀ cfgs (dats m) 0 (V0 m) [hostOps1] c main_v5 = rDal m c := by
  refine (post_v5 (exitV m c)).trans ?_
  rw [exit_v4_1]
  refine ext1 fun h => ?_
  refine (row1_apply (F := Ideal) (kdal m c) h).trans ?_
  show (∑ y : Fin 256, ∑ b : Fin 6, (argRow m c b y h).tokK) = ∑ b : Fin 6, ∑ y : Fin 256, (argRow m c b y h).tok
  rw [Finset.sum_comm]
  exact Finset.sum_congr rfl fun b _ => Finset.sum_congr rfl fun y _ =>
    (argRow m c b y h).tokK_eq (hg.al b y h) (hg.gs0 b y h) (hg.gst b y h)

theorem fin_v6 : Pipeline.afterTail₀ cfgs (dats m) 0 (V0 m) [hostOps1] c main_v6 = rTok m c := by
  refine (post_v6 (exitV m c)).trans ?_
  rw [exit_v4_2]
  refine ext3 fun b y h => ?_
  refine (un64_apply (F := Ideal) (ktok m c) b y h).trans ?_
  exact (argRow m c b y h).tokK_eq (hg.al b y h) (hg.gs0 b y h) (hg.gst b y h)

theorem fin_v7 : Pipeline.afterTail₀ cfgs (dats m) 0 (V0 m) [hostOps1] c main_v7 = rCode m c := by
  refine (post_v7 (exitV m c)).trans ?_
  rw [exit_v4_3]
  refine ext4 fun b y h j => ?_
  refine (un48_apply (F := Ideal) (kcode m c) b y h j).trans ?_
  show pack ((argRow m c b y h).cfK (ev j)) ((argRow m c b y h).cfK (od j))
    = pack ((argRow m c b y h).cf (ev j)) ((argRow m c b y h).cf (od j))
  rw [(argRow m c b y h).cfK_eq (hg.al b y h), (argRow m c b y h).cfK_eq (hg.al b y h)]

theorem fin_v8 : Pipeline.afterTail₀ cfgs (dats m) 0 (V0 m) [hostOps1] c main_v8 = rSc m c := by
  refine (post_v8 (exitV m c)).trans ?_
  rw [exit_v4_4]
  refine ext3 fun b y h => ?_
  refine (un64_apply (F := Ideal) (ksc m c) b y h).trans ?_
  exact (argRow m c b y h).scK_eq

end Results

/-- The kernel's run: its five results as the specification's arrays, its arguments unchanged. -/
theorem run (ρ : Dev nD → PrngReg) (hg : ∀ c, Good m c) :
    θ_run defs (onTc (τ := τ) (main (F := Ideal))) ⟨m, fun _ => 0, ρ⟩ (fun r => ∀ c : Dev nD,
      r.2.mem ((c.tc : Thread nD τ).loc main_v4_0) = rDk m c
      ∧ r.2.mem ((c.tc : Thread nD τ).loc main_v5) = rDal m c
      ∧ r.2.mem ((c.tc : Thread nD τ).loc main_v6) = rTok m c
      ∧ r.2.mem ((c.tc : Thread nD τ).loc main_v7) = rCode m c
      ∧ r.2.mem ((c.tc : Thread nD τ).loc main_v8) = rSc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans ((arr6_eq m c).trans (fin_v4_0 m c (hg c))),
      ((h c).2 main_v5 (Pipeline.mem_restRefs_of main_v5 (by decide) (by decide))).trans (fin_v5 m c (hg c)),
      ((h c).2 main_v6 (Pipeline.mem_restRefs_of main_v6 (by decide) (by decide))).trans (fin_v6 m c (hg c)),
      ((h c).2 main_v7 (Pipeline.mem_restRefs_of main_v7 (by decide) (by decide))).trans (fin_v7 m c (hg c)),
      ((h c).2 main_v8 (Pipeline.mem_restRefs_of main_v8 (by decide) (by decide))).trans (fin_v8 m c (hg c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩) (run_main m ρ)

end Cert.KernelIdeal.Body

end
-- ==== Proof.KernelIdeal.Pre.lean ====
/- What the precondition says of the argument arrays: no parameter is zero, every scale is nonnegative and finite. -/
module

public import proofs.«01_k».proof.Defs
public import proofs.«01_k».proof.Proof.Gen.Pre_positive
public import proofs.«01_k».proof.Proof.KernelIdeal.Final
public import Idealize.ShloMosaic.Lib.ReduceAll

@[expose] public section

noncomputable section

namespace Cert.KernelIdeal.Body

open Idealize Idealize.ShloMosaic Idealize.ShloMosaic.TcCoe Cert.KernelIdeal Cert.KernelIdeal.Gen Cert.Row

instance : Subsingleton Cert.Pre_positive.S_.Idx := ⟨fun a b => funext fun i => i.elim0⟩

theorem ofBool_one {p : Prop} [Decidable p] (h : BitVec.ofBool (decide p) = 1#1) : p := by
  by_contra hp
  rw [decide_eq_false hp] at h
  exact absurd h (by decide)

theorem une_zero (x : EReal) (h : FloatOps.cmpf (F := Ideal) (φ := .f32) .une x (Ideal.ofBits .f32 0x00000000#32) = 1#1) : x ≠ 0 := by
  rw [bits_zero] at h
  exact ofBool_one h

theorem oge_zero (x : EReal) (h : FloatOps.cmpf (F := Ideal) (φ := .f32) .oge x (Ideal.ofBits .f32 0x00000000#32) = 1#1) : 0 ≤ x := by
  rw [bits_zero] at h
  exact ofBool_one h

theorem olt_top (x : EReal) (h : FloatOps.cmpf (F := Ideal) (φ := .f32) .olt x (Ideal.ofBits .f32 0x7F800000#32) = 1#1) : x ≠ ⊤ := by
  rw [bits_top] at h
  exact ne_of_lt (ofBool_one (p := x < ⊤) h)

theorem fn_one [Cert.Pre_positive.Facts] (X : FVec Ideal S6x256x6144 .bf16) (C S : FVec Ideal S6x256x48 .f32) (A : FVec Ideal S64 .f32)
    (Q : FVec Ideal S6x256x64x96 .fp8e5m2) (G : FVec Ideal S6x256x64 .f32)
    (h : Cert.Pre_positive.fn (F := Ideal) X C S A Q G = fun _ => 1#1) :
    (∀ i, A i ≠ 0) ∧ ∀ i, 0 ≤ G i ∧ G i ≠ ⊤ := by
  have h0 := IntOp.andi_eq_one.1 (congrFun h ix0)
  refine ⟨fun i => une_zero _ (Host.reduce_andi_all _ _ _ _ ix0 h0.1 i), fun i => ?_⟩
  have h1 := IntOp.andi_eq_one.1 (Host.reduce_andi_all _ _ _ _ ix0 h0.2 i)
  exact ⟨oge_zero _ h1.1, olt_top _ h1.2⟩

theorem good [Cert.Pre_positive.Facts] (m : (ℓ : Loc nD τ sig) → Buf (Elt Ideal) ℓ) (h : Cert.Pre_KernelIdeal_positive m) (c : Dev nD) : Good m c :=
  have e := fn_one _ _ _ _ _ _ (h c)
  ⟨fun b y k => e.1 (ix1 k), fun b y k => (e.2 (ix3 b y k)).1, fun b y k => (e.2 (ix3 b y k)).2⟩

end Cert.KernelIdeal.Body

end
-- ==== Proof.Ref.Arrays.lean ====
/- The reference's host program as functions of arrays, one definition per stage: the rotated keys, the row maximum, the
   scales, the codes before their conversion, and, from the three arrays of the conversion region, the gradients and the
   packed codes. -/
module

public import proofs.«01_k».proof.Proof.Gen.ReferenceIdeal.Launch
public import proofs.«01_k».proof.Proof.Gen.ReferenceIdeal.Skeleton

@[expose] public section

noncomputable section

namespace Cert.ReferenceIdeal.Arr

open Idealize Idealize.ShloMosaic Cert.ReferenceIdeal.Gen

variable {F : FTy → Type} [FloatOps F]

/-- A table of cosines or sines for every head. -/
def tab1 (a : FVec F S6x256x48 .f32) : FVec F S6x256x1x48 .f32 := broadcastInDim S6x256x1x48 ![0, 1, 3] bcast_S6x256x48_S6x256x1x48_0_1_3 a
def tab (a : FVec F S6x256x1x48 .f32) : FVec F S6x256x64x48 .f32 :=
  broadcastInDim S6x256x64x48 ![0, 1, 2, 3] bcast_S6x256x1x48_S6x256x64x48_0_1_2_3 a
/-- The two halves of every row. -/
def loH (a : FVec F S6x256x64x96 .f32) : FVec F S6x256x64x48 .f32 :=
  extractStridedSlice S6x256x64x48 ![0, 0, 0, 0] a slices_S6x256x64x96_S6x256x64x48_0_0_0_0
def hiH (a : FVec F S6x256x64x96 .f32) : FVec F S6x256x64x48 .f32 :=
  extractStridedSlice S6x256x64x48 ![0, 0, 0, 48] a slices_S6x256x64x96_S6x256x64x48_0_0_0_48
def cat (a b : FVec F S6x256x64x48 .f32) : FVec F S6x256x64x96 .f32 :=
  concatenate S6x256x64x96 3 [⟨S6x256x64x48, a⟩, ⟨S6x256x64x48, b⟩] concatenates_S6x256x64x48_S6x256x64x48_S6x256x64x96_d3
/-- The keys by head. -/
def heads (a0 : FVec F S6x256x6144 .bf16) : FVec F S6x256x64x96 .f32 :=
  shapeCast S6x256x64x96 (extf .f32 a0 bitsLt_bf16_f32) shapeCasts_S6x256x6144_S6x256x64x96
/-- The rotated keys. -/
def krR (k : FVec F S6x256x64x96 .f32) (c s : FVec F S6x256x1x48 .f32) : FVec F S6x256x64x96 .f32 :=
  cat (subf (mulf (loH k) (tab c)) (mulf (hiH k) (tab s))) (addf (mulf (hiH k) (tab c)) (mulf (loH k) (tab s)))
/-- The largest magnitude of a row. -/
def amR (kr : FVec F S6x256x64x96 .f32) : FVec F S6x256x64 .f32 :=
  Host.reduce FloatOps.maximumf (Host.absf kr) (constant S_ .f32 0xFF800000#32) reducesTo_S6x256x64x96_S6x256x64_d3 h_S_
/-- The scales. -/
def scR (am : FVec F S6x256x64 .f32) (a3 : FVec F S64 .f32) : FVec F S6x256x64 .f32 :=
  select (cmpf .oeq am (broadcastInDim S6x256x64 ![] bcast_S_S6x256x64 (constant S_ .f32 0x00000000#32)))
    (broadcastInDim S6x256x64 ![] bcast_S_S6x256x64 (constant S_ .f32 0x3F800000#32))
    (Host.divf (mulf (broadcastInDim S6x256x64 ![0, 1, 2] bcast_S1x1x64_S6x256x64_0_1_2 (broadcastInDim S1x1x64 ![2] bcast_S64_S1x1x64_2 a3)) am)
      (broadcastInDim S6x256x64 ![] bcast_S_S6x256x64 (constant S_ .f32 0x40E00000#32)))
/-- One number per row, at every entry of the row. -/
def rowB (a : FVec F S6x256x64 .f32) : FVec F S6x256x64x96 .f32 :=
  broadcastInDim S6x256x64x96 ![0, 1, 2, 3] bcast_S6x256x64x1_S6x256x64x96_0_1_2_3
    (broadcastInDim S6x256x64x1 ![0, 1, 2] bcast_S6x256x64_S6x256x64x1_0_1_2 a)
/-- The codes before their conversion to integers. -/
def cfR (kr : FVec F S6x256x64x96 .f32) (sc : FVec F S6x256x64 .f32) : FVec F S6x256x64x96 .f32 :=
  minimumf (broadcastInDim S6x256x64x96 ![] bcast_S_S6x256x64x96 (sitofp .f32 (constantI S_ 32 7#32)))
    (maximumf (broadcastInDim S6x256x64x96 ![] bcast_S_S6x256x64x96 (sitofp .f32 (constantI S_ 32 4294967289#32)))
      (Host.roundeven (Host.divf kr (rowB sc))))
/-- The cotangent codes as numbers. -/
def wid (q : FVec F S6x256x64x96 .fp8e5m2) : FVec F S6x256x64x96 .f32 := extf .f32 q bitsLt_fp8e5m2_f32
/-- The gradient before the quantiser, whether an entry lies within the codes' range, the gradient after it. -/
def gR (g : FVec F S6x256x64x96 .f32) (a5 : FVec F S6x256x64 .f32) : FVec F S6x256x64x96 .f32 := mulf g (rowB a5)
def insR (r : FVec F S6x256x64x96 .f32) : IVec S6x256x64x96 1 :=
  cmpf .ole (Host.absf r) (broadcastInDim S6x256x64x96 ![] bcast_S_S6x256x64x96 (constant S_ .f32 0x40E00000#32))
def ginR (r g : FVec F S6x256x64x96 .f32) : FVec F S6x256x64x96 .f32 :=
  select (insR r) g (broadcastInDim S6x256x64x96 ![] bcast_S_S6x256x64x96 (constant S_ .f32 0x00000000#32))
/-- The derivative of an entry by its scale. -/
def termR (r q : FVec F S6x256x64x96 .f32) : FVec F S6x256x64x96 .f32 := select (insR r) (subf q r) q
/-- The gradient of the parameter, token by token, and summed over the tokens. -/
def tokR (r q g : FVec F S6x256x64x96 .f32) (am : FVec F S6x256x64 .f32) : FVec F S6x256x64 .f32 :=
  mulf (Host.reduceAdd (mulf g (termR r q)) (constant S_ .f32 0x00000000#32) reducesTo_S6x256x64x96_S6x256x64_d3 h_S_)
    (Host.divf am (broadcastInDim S6x256x64 ![] bcast_S_S6x256x64 (constant S_ .f32 0x40E00000#32)))
def dalR (tok : FVec F S6x256x64 .f32) : FVec F S64 .f32 :=
  Host.reduceAdd tok (constant S_ .f32 0x00000000#32) reducesTo_S6x256x64_S64_d0_1 h_S_
/-- The gradient of the keys. -/
def dkR (gin : FVec F S6x256x64x96 .f32) (c s : FVec F S6x256x1x48 .f32) : FVec F S6x256x6144 .bf16 :=
  truncf .bf16 (shapeCast S6x256x6144
    (cat (addf (mulf (loH gin) (tab c)) (mulf (hiH gin) (tab s))) (subf (mulf (hiH gin) (tab c)) (mulf (loH gin) (tab s))))
    shapeCasts_S6x256x64x96_S6x256x6144) bitsLt_bf16_f32
/-- The codes packed two to a byte. -/
def codeR (q : IVec S6x256x64x96 8) : IVec S6x256x64x48 8 :=
  trunci 8 (ori
    (andi (Host.slice S6x256x64x48 ![0, 0, 0, 0] ![1, 1, 1, 2] (extsi 32 q natLt_8_32) slicesBy_S6x256x64x96_S6x256x64x48_0s1_0s1_0s1_0s2)
      (broadcastInDim S6x256x64x48 ![] bcast_S_S6x256x64x48 (constantI S_ 32 15#32)))
    (Host.shli
      (andi (Host.slice S6x256x64x48 ![0, 0, 0, 1] ![1, 1, 1, 2] (extsi 32 q natLt_8_32) slicesBy_S6x256x64x96_S6x256x64x48_0s1_0s1_0s1_1s2)
        (broadcastInDim S6x256x64x48 ![] bcast_S_S6x256x64x48 (constantI S_ 32 15#32)))
      (broadcastInDim S6x256x64x48 ![] bcast_S_S6x256x64x48 (constantI S_ 32 4#32)))) natLt_8_32

end Cert.ReferenceIdeal.Arr

end
-- ==== Proof.Ref.Value.lean ====
/- Each stage of the reference read at an index, over the extended reals. -/
module

public import proofs.«01_k».proof.Proof.Ref.Arrays
public import proofs.«01_k».proof.Proof.Val.Spec
public import Idealize.ShloMosaic.Lib.Pointwise

@[expose] public section

noncomputable section

namespace Cert.ReferenceIdeal.Arr

open Idealize Idealize.ShloMosaic Cert.ReferenceIdeal Cert.ReferenceIdeal.Gen Cert.Row

theorem tab_apply (a : FVec Ideal S6x256x48 .f32) (b : Fin 6) (t : Fin 256) (h : Fin 64) (j : Fin 48) :
    tab (tab1 a) (ix4 b t h j) = a (ix3 b t j) := by
  pointwise [tab, tab1]

theorem loH_apply (a : FVec Ideal S6x256x64x96 .f32) (b : Fin 6) (t : Fin 256) (h : Fin 64) (j : Fin 48) :
    loH a (ix4 b t h j) = a (ix4 b t h (lo j)) := by
  pointwise [loH, lo]

theorem hiH_apply (a : FVec Ideal S6x256x64x96 .f32) (b : Fin 6) (t : Fin 256) (h : Fin 64) (j : Fin 48) :
    hiH a (ix4 b t h j) = a (ix4 b t h (hi j)) := by
  pointwise [hiH, hi]

theorem cat_apply (x y : FVec Ideal S6x256x64x48 .f32) (b : Fin 6) (t : Fin 256) (h : Fin 64) (d : Fin 96) :
    cat x y (ix4 b t h d) = glue (fun j => x (ix4 b t h j)) (fun j => y (ix4 b t h j)) d := by
  pointwise [cat, glue]

theorem heads_apply (a : FVec Ideal S6x256x6144 .bf16) (b : Fin 6) (t : Fin 256) (h : Fin 64) (d : Fin 96) :
    heads a (ix4 b t h d) = a (ix3 b t (col h d)) := by
  pointwise [heads, col]

theorem rowB_apply (a : FVec Ideal S6x256x64 .f32) (b : Fin 6) (t : Fin 256) (h : Fin 64) (d : Fin 96) :
    rowB a (ix4 b t h d) = a (ix3 b t h) := by
  pointwise [rowB]

theorem krR_apply (k : FVec Ideal S6x256x64x96 .f32) (c s : FVec Ideal S6x256x1x48 .f32) (b : Fin 6) (t : Fin 256) (h : Fin 64) (d : Fin 96) :
    krR k c s (ix4 b t h d) = glue (fun j => k (ix4 b t h (lo j)) * tab c (ix4 b t h j) - k (ix4 b t h (hi j)) * tab s (ix4 b t h j))
      (fun j => k (ix4 b t h (hi j)) * tab c (ix4 b t h j) + k (ix4 b t h (lo j)) * tab s (ix4 b t h j)) d := by
  unfold krR
  rw [cat_apply]
  simp only [ValueIdx.subf_apply, ValueIdx.addf_apply, ValueIdx.mulf_apply, loH_apply, hiH_apply]

theorem amR_apply (k : FVec Ideal S6x256x64x96 .f32) (b : Fin 6) (t : Fin 256) (h : Fin 64) :
    amR k (ix3 b t h) = Finset.univ.fold max ⊥ (fun d : Fin 96 => max (k (ix4 b t h d)) (-(k (ix4 b t h d)))) := by
  pointwise [amR]
  rw [bits_bot]; rfl

theorem scR_apply (am : FVec Ideal S6x256x64 .f32) (a3 : FVec Ideal S64 .f32) (b : Fin 6) (t : Fin 256) (h : Fin 64) :
    scR am a3 (ix3 b t h) = if am (ix3 b t h) = 0 then 1 else Ideal.div (a3 (ix1 h) * am (ix3 b t h)) seven := by
  pointwise [scR]
  rw [bits_seven]

theorem cfR_apply (k : FVec Ideal S6x256x64x96 .f32) (sc : FVec Ideal S6x256x64 .f32) (b : Fin 6) (t : Fin 256) (h : Fin 64) (d : Fin 96) :
    cfR k sc (ix4 b t h d) = clip (rnd (Ideal.div (k (ix4 b t h d)) (sc (ix3 b t h)))) := by
  unfold cfR
  pointwise
  rw [rowB_apply]
  have e7 : (FloatOps.sitofp (F := ShloMosaic.Ideal) FTy.f32 7#32) = seven := by
    show (((7#32 : BitVec 32).toInt : ℝ) : EReal) = _
    rw [show (7#32 : BitVec 32).toInt = 7 from by decide]
    norm_num [seven]
  have em : (FloatOps.sitofp (F := ShloMosaic.Ideal) FTy.f32 4294967289#32) = -seven := by
    show (((4294967289#32 : BitVec 32).toInt : ℝ) : EReal) = _
    rw [show (4294967289#32 : BitVec 32).toInt = -7 from by decide]
    norm_num [seven]
  rw [e7, em]
  rfl

theorem gR_apply (g : FVec Ideal S6x256x64x96 .f32) (a5 : FVec Ideal S6x256x64 .f32) (b : Fin 6) (t : Fin 256) (h : Fin 64) (d : Fin 96) :
    gR g a5 (ix4 b t h d) = g (ix4 b t h d) * a5 (ix3 b t h) := by
  unfold gR
  rw [ValueIdx.mulf_apply, rowB_apply]

theorem ginR_apply (r g : FVec Ideal S6x256x64x96 .f32) (b : Fin 6) (t : Fin 256) (h : Fin 64) (d : Fin 96) :
    ginR r g (ix4 b t h d) = if max (r (ix4 b t h d)) (-(r (ix4 b t h d))) ≤ seven then g (ix4 b t h d) else 0 := by
  pointwise [ginR, insR]
  rw [bits_seven]; rfl

theorem termR_apply (r q : FVec Ideal S6x256x64x96 .f32) (b : Fin 6) (t : Fin 256) (h : Fin 64) (d : Fin 96) :
    termR r q (ix4 b t h d) = if max (r (ix4 b t h d)) (-(r (ix4 b t h d))) ≤ seven then q (ix4 b t h d) - r (ix4 b t h d) else q (ix4 b t h d) := by
  pointwise [termR, insR]
  rw [bits_seven]; rfl

theorem tokR_apply (r q g : FVec Ideal S6x256x64x96 .f32) (am : FVec Ideal S6x256x64 .f32) (b : Fin 6) (t : Fin 256) (h : Fin 64) :
    tokR r q g am (ix3 b t h) = (∑ d : Fin 96, g (ix4 b t h d) * termR r q (ix4 b t h d)) * Ideal.div (am (ix3 b t h)) seven := by
  unfold tokR
  pointwise
  rw [bits_seven]

theorem dalR_apply (tok : FVec Ideal S6x256x64 .f32) (h : Fin 64) :
    dalR tok (ix1 h) = ∑ b : Fin 6, ∑ t : Fin 256, tok (ix3 b t h) := by
  pointwise [dalR]
  unfold Ideal.hostReduceAdd
  rw [zero_add, ← Finset.sum_product']
  symm
  refine Finset.sum_bij (fun p _ => ix3 p.1 p.2 h) ?_ ?_ ?_ (fun _ _ => rfl)
  · intro p _
    refine Finset.mem_filter.mpr ⟨Finset.mem_univ _, ?_⟩
    funext x
    match x with | ⟨0, _⟩ => rfl
  · intro p _ q _ e
    obtain ⟨e1, e2, -⟩ := (ix3_inj ..).mp e
    exact Prod.ext e1 e2
  · intro i hi
    refine ⟨(i 0, i 1), Finset.mem_product.mpr ⟨Finset.mem_univ _, Finset.mem_univ _⟩, ?_⟩
    have e := congrFun (Finset.mem_filter.mp hi).2 0
    have e2 : i 2 = h := e
    rw [← e2]
    exact ix3_eta i

theorem dkR_apply (g : FVec Ideal S6x256x64x96 .f32) (c s : FVec Ideal S6x256x1x48 .f32) (b : Fin 6) (t : Fin 256) (h : Fin 64) (d : Fin 96) :
    dkR g c s (ix3 b t (col h d)) = glue (fun j => g (ix4 b t h (lo j)) * tab c (ix4 b t h j) + g (ix4 b t h (hi j)) * tab s (ix4 b t h j))
      (fun j => g (ix4 b t h (hi j)) * tab c (ix4 b t h j) - g (ix4 b t h (lo j)) * tab s (ix4 b t h j)) d := by
  unfold dkR
  rw [ValueIdx.truncf_apply, shapeCast_apply _ _ _ (ix4 b t h d) (by
    rw [Shape.rowMajor_val_four, Shape.rowMajor_val_three]
    show ((b.val * 256 + t.val) * 64 + h.val) * 96 + d.val = (b.val * 256 + t.val) * 6144 + (h.val * 96 + d.val)
    omega), cat_apply]
  simp only [ValueIdx.subf_apply, ValueIdx.addf_apply, ValueIdx.mulf_apply, loH_apply, hiH_apply]

theorem codeR_apply (q : IVec S6x256x64x96 8) (b : Fin 6) (t : Fin 256) (h : Fin 64) (j : Fin 48) :
    codeR q (ix4 b t h j) = ((((q (ix4 b t h (ev j))).signExtend 32 &&& 15#32)
      ||| (((q (ix4 b t h (od j))).signExtend 32 &&& 15#32) <<< 4)).setWidth 8) := by
  pointwise [codeR, ev, od]
  rfl

end Cert.ReferenceIdeal.Arr

end
-- ==== Proof.Ref.Run.lean ====
/- The reference's run: each of its arrays before the conversion region, each of the region's three outputs, and each of
   its results, by the named stages of Arrays.lean. -/
module

public import proofs.«01_k».proof.Proof.Ref.Arrays
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Arr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.ReferenceIdeal.Gen

variable {F : FTy → Type} [FloatOps F]

/-! ## The stages as functions of the arguments -/

def aKr (a0 : FVec F S6x256x6144 .bf16) (a1 a2 : FVec F S6x256x48 .f32) : FVec F S6x256x64x96 .f32 := krR (heads a0) (tab1 a1) (tab1 a2)
def aSc (a0 : FVec F S6x256x6144 .bf16) (a1 a2 : FVec F S6x256x48 .f32) (a3 : FVec F S64 .f32) : FVec F S6x256x64 .f32 :=
  scR (amR (aKr a0 a1 a2)) a3
def aCf (a0 : FVec F S6x256x6144 .bf16) (a1 a2 : FVec F S6x256x48 .f32) (a3 : FVec F S64 .f32) : FVec F S6x256x64x96 .f32 :=
  cfR (aKr a0 a1 a2) (aSc a0 a1 a2 a3)

/-! ## Before the region, from any memory -/

set_option maxRecDepth 8192 in
set_option maxHeartbeats 4000000 in
theorem pre_v0 (V : Valuation τ sig (Elt F)) :
    after (List.flatten [hostOps0, hostOps0_1, hostOps0_2, hostOps0_3, hostOps0_4, hostOps0_5]) V (Proc.devRef .tc main_v0)
      = tab1 (V (Proc.devRef .tc main_arg1)) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v1 (V : Valuation τ sig (Elt F)) :
    after (List.flatten [hostOps0, hostOps0_1, hostOps0_2, hostOps0_3, hostOps0_4, hostOps0_5]) V (Proc.devRef .tc main_v1)
      = tab1 (V (Proc.devRef .tc main_arg2)) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v16 (V : Valuation τ sig (Elt F)) :
    after (List.flatten [hostOps0, hostOps0_1, hostOps0_2, hostOps0_3, hostOps0_4, hostOps0_5]) V (Proc.devRef .tc main_v16)
      = aKr (V (Proc.devRef .tc main_arg0)) (V (Proc.devRef .tc main_arg1)) (V (Proc.devRef .tc main_arg2)) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v18 (V : Valuation τ sig (Elt F)) :
    after (List.flatten [hostOps0, hostOps0_1, hostOps0_2, hostOps0_3, hostOps0_4, hostOps0_5]) V (Proc.devRef .tc main_v18)
      = amR (aKr (V (Proc.devRef .tc main_arg0)) (V (Proc.devRef .tc main_arg1)) (V (Proc.devRef .tc main_arg2))) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v26 (V : Valuation τ sig (Elt F)) :
    after (List.flatten [hostOps0, hostOps0_1, hostOps0_2, hostOps0_3, hostOps0_4, hostOps0_5]) V (Proc.devRef .tc main_v26)
      = aSc (V (Proc.devRef .tc main_arg0)) (V (Proc.devRef .tc main_arg1)) (V (Proc.devRef .tc main_arg2)) (V (Proc.devRef .tc main_arg3)) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem pre_v31 (V : Valuation τ sig (Elt F)) :
    after (List.flatten [hostOps0, hostOps0_1, hostOps0_2, hostOps0_3, hostOps0_4, hostOps0_5]) V (Proc.devRef .tc main_v31)
      = aCf (V (Proc.devRef .tc main_arg0)) (V (Proc.devRef .tc main_arg1)) (V (Proc.devRef .tc main_arg2)) (V (Proc.devRef .tc main_arg3)) := by
  simp only [hostOps0, hostOps0_1, hostOps0_2, hostOps0_3, hostOps0_4, hostOps0_5, TRef.binary, TRef.ternary, TRef.unary, TRef.toBuf, TRef.ofBuf, cast_eq, List.flatten_cons, List.flatten_nil, List.append_nil, List.cons_append, List.nil_append]
  after_results_simp <;> rfl

/-! ## After the region, from any memory -/

set_option maxRecDepth 8192 in
set_option maxHeartbeats 4000000 in
theorem post_v65 (V : Valuation τ sig (Elt F)) :
    after (List.flatten [hostOps1, hostOps1_1, hostOps1_2, hostOps1_3, hostOps1_4]) V (Proc.devRef .tc main_v65)
      = dkR (ginR (Host.divf (V (Proc.devRef .tc main_v16)) (rowB (V (Proc.devRef .tc main_v26)))) (gR (V (Proc.devRef .tc main_v32_2)) (V (Proc.devRef .tc main_arg5)))) (V (Proc.devRef .tc main_v0)) (V (Proc.devRef .tc main_v1)) := by
  simp only [hostOps1, hostOps1_1, hostOps1_2, hostOps1_3, hostOps1_4, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v50 (V : Valuation τ sig (Elt F)) :
    after (List.flatten [hostOps1, hostOps1_1, hostOps1_2, hostOps1_3, hostOps1_4]) V (Proc.devRef .tc main_v50)
      = dalR (tokR (Host.divf (V (Proc.devRef .tc main_v16)) (rowB (V (Proc.devRef .tc main_v26)))) (V (Proc.devRef .tc main_v32_1)) (gR (V (Proc.devRef .tc main_v32_2)) (V (Proc.devRef .tc main_arg5))) (V (Proc.devRef .tc main_v18))) := by
  simp only [hostOps1, hostOps1_1, hostOps1_2, hostOps1_3, hostOps1_4, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v49 (V : Valuation τ sig (Elt F)) :
    after (List.flatten [hostOps1, hostOps1_1, hostOps1_2, hostOps1_3, hostOps1_4]) V (Proc.devRef .tc main_v49)
      = tokR (Host.divf (V (Proc.devRef .tc main_v16)) (rowB (V (Proc.devRef .tc main_v26)))) (V (Proc.devRef .tc main_v32_1)) (gR (V (Proc.devRef .tc main_v32_2)) (V (Proc.devRef .tc main_arg5))) (V (Proc.devRef .tc main_v18)) := by
  simp only [hostOps1, hostOps1_1, hostOps1_2, hostOps1_3, hostOps1_4, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v76 (V : Valuation τ sig (Elt F)) :
    after (List.flatten [hostOps1, hostOps1_1, hostOps1_2, hostOps1_3, hostOps1_4]) V (Proc.devRef .tc main_v76)
      = codeR (V (Proc.devRef .tc main_v32_0)) := by
  simp only [hostOps1, hostOps1_1, hostOps1_2, hostOps1_3, hostOps1_4, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 4000000 in
theorem post_v26 (V : Valuation τ sig (Elt F)) :
    after (List.flatten [hostOps1, hostOps1_1, hostOps1_2, hostOps1_3, hostOps1_4]) V (Proc.devRef .tc main_v26)
      = (V (Proc.devRef .tc main_v26)) := by
  simp only [hostOps1, hostOps1_1, hostOps1_2, hostOps1_3, hostOps1_4, TRef.binary, TRef.ternary, TRef.unary, TRef.toBuf, TRef.ofBuf, cast_eq, List.flatten_cons, List.flatten_nil, List.append_nil, List.cons_append, List.nil_append]
  after_results_simp

end Cert.ReferenceIdeal.Arr

end
-- ==== Proof.Ref.Final.lean ====
/- What the reference returns: the five arrays of Spec.lean. The stages are read at an index and met with the row's
   quantities, then the run carries the argument arrays through them. -/
module

public import proofs.«01_k».proof.Proof.Ref.Value
public import proofs.«01_k».proof.Proof.Ref.Run
public import Idealize.ShloMosaic.Lib.Pipeline.ValueKit

@[expose] public section

noncomputable section

namespace Cert.ReferenceIdeal.Arr

open Idealize.ShloMosaic Idealize.ShloMosaic.TcCoe Idealize.ShloMosaic.StableHlo Idealize.SL.Sem Cert.ReferenceIdeal Cert.ReferenceIdeal.Gen Cert.Row

theorem hdivf_apply {s : Shape} (x y : FVec Ideal s .f32) (i : s.Idx) : Host.divf x y i = Ideal.div (x i) (y i) := rfl

section Stages

variable (X : FVec Ideal S6x256x6144 .bf16) (C S : FVec Ideal S6x256x48 .f32) (A : FVec Ideal S64 .f32)
  (Q : FVec Ideal S6x256x64x96 .fp8e5m2) (G : FVec Ideal S6x256x64 .f32)
variable (b : Fin 6) (t : Fin 256) (h : Fin 64)

theorem aKr_apply (d : Fin 96) : aKr X C S (ix4 b t h d) = (rowOf X C S A Q G b t h).kr d := by
  unfold aKr
  rw [krR_apply]
  simp only [heads_apply, tab_apply]
  rfl

theorem aAm_apply : amR (aKr X C S) (ix3 b t h) = (rowOf X C S A Q G b t h).am := by
  rw [amR_apply]
  simp only [aKr_apply X C S A Q G]
  rfl

theorem aSc_apply : aSc X C S A (ix3 b t h) = (rowOf X C S A Q G b t h).sc := by
  unfold aSc
  rw [scR_apply, aAm_apply X C S A Q G]
  rfl

theorem aR_apply (d : Fin 96) :
    Host.divf (aKr X C S) (rowB (aSc X C S A)) (ix4 b t h d) = (rowOf X C S A Q G b t h).r d := by
  rw [hdivf_apply, rowB_apply, aKr_apply X C S A Q G, aSc_apply X C S A Q G]
  rfl

theorem aCf_apply (d : Fin 96) : aCf X C S A (ix4 b t h d) = (rowOf X C S A Q G b t h).cf d := by
  unfold aCf
  rw [cfR_apply, aKr_apply X C S A Q G, aSc_apply X C S A Q G]
  rfl

/-- The codes as integers, and as numbers again. -/
def aQi : IVec S6x256x64x96 8 := fptosi 8 (aCf X C S A)
def aQf : FVec Ideal S6x256x64x96 .f32 := sitofp .f32 (aQi X C S A)

theorem aQi_apply (d : Fin 96) : aQi X C S A (ix4 b t h d) = Ideal.fptosi 8 ((rowOf X C S A Q G b t h).cf d) := by
  rw [← aCf_apply X C S A Q G]
  rfl

theorem aQf_apply (d : Fin 96) : aQf X C S A (ix4 b t h d) = (rowOf X C S A Q G b t h).cf d := by
  show (((aQi X C S A (ix4 b t h d)).toInt : ℝ) : EReal) = _
  rw [aQi_apply X C S A Q G]
  obtain ⟨n, h1, h2, e⟩ := (rowOf X C S A Q G b t h).cf_int d
  rw [e]
  exact sitofp_fptosi8 n h1 h2

theorem aG_apply (d : Fin 96) : gR (wid Q) G (ix4 b t h d)
    = (rowOf X C S A Q G b t h).q d * (rowOf X C S A Q G b t h).gs := by
  rw [gR_apply]
  rfl

theorem aGin_apply (d : Fin 96) :
    ginR (Host.divf (aKr X C S) (rowB (aSc X C S A))) (gR (wid Q) G) (ix4 b t h d)
      = (rowOf X C S A Q G b t h).gin d := by
  rw [ginR_apply, aR_apply X C S A Q G, aG_apply X C S A Q G]
  rfl

theorem aTerm_apply (d : Fin 96) :
    termR (Host.divf (aKr X C S) (rowB (aSc X C S A))) (aQf X C S A) (ix4 b t h d) = (rowOf X C S A Q G b t h).term d := by
  rw [termR_apply, aR_apply X C S A Q G, aQf_apply X C S A Q G]
  rfl

/-- The token gradients of the arguments. -/
def aTok : FVec Ideal S6x256x64 .f32 :=
  tokR (Host.divf (aKr X C S) (rowB (aSc X C S A))) (aQf X C S A) (gR (wid Q) G) (amR (aKr X C S))

theorem aTok_apply : aTok X C S A Q G (ix3 b t h) = (rowOf X C S A Q G b t h).tok := by
  unfold aTok
  rw [tokR_apply, aAm_apply X C S A Q G]
  simp only [aG_apply X C S A Q G, aTerm_apply X C S A Q G]
  rfl

theorem aTok_eq : aTok X C S A Q G = tokA X C S A Q G := ext3 fun b t h => aTok_apply X C S A Q G b t h

theorem aDal_eq : dalR (aTok X C S A Q G) = dalA X C S A Q G := ext1 fun h => by
  rw [dalR_apply]
  simp only [aTok_apply]
  rfl

theorem aSc_eq : aSc X C S A = scA X C S A Q G := ext3 fun b t h => aSc_apply X C S A Q G b t h

theorem aCode_eq : codeR (aQi X C S A) = codeA X C S A Q G := ext4 fun b t h j => by
  rw [codeR_apply, aQi_apply X C S A Q G, aQi_apply X C S A Q G]
  rfl

theorem aDk_eq :
    dkR (ginR (Host.divf (aKr X C S) (rowB (aSc X C S A))) (gR (wid Q) G)) (tab1 C) (tab1 S)
      = dkA X C S A Q G := extCol fun b t h d => by
  rw [dkR_apply, dkA_apply]
  simp only [aGin_apply, tab_apply]
  rfl

end Stages

section Region

variable {F : FTy → Type} [FloatOps F]
variable (m : (ℓ : Loc nD τ sig) → Buf (Elt F) ℓ)

theorem hz4 : (![0, 0, 0, 0] : Fin 4 → Nat) = fun _ => 0 := funext fun a => by fin_cases a <;> rfl

theorem ind0 : ∀ t : Fin cfg0.N, win0_0.index t = ![0, 0, 0, 0] := (by decide +kernel : ∀ t : Fin grid0.N, _)
theorem ind1 : ∀ t : Fin cfg0.N, win0_1.index t = ![0, 0, 0, 0] := (by decide +kernel : ∀ t : Fin grid0.N, _)
theorem ind2 : ∀ t : Fin cfg0.N, win0_2.index t = ![0, 0, 0, 0] := (by decide +kernel : ∀ t : Fin grid0.N, _)
theorem ind3 : ∀ t : Fin cfg0.N, win0_3.index t = ![0, 0, 0, 0] := (by decide +kernel : ∀ t : Fin grid0.N, _)
theorem ind4 : ∀ t : Fin cfg0.N, win0_4.index t = ![0, 0, 0, 0] := (by decide +kernel : ∀ t : Fin grid0.N, _)

/-- The region's one point reads its two arrays whole. -/
theorem iblk0_eq (c : Dev nD) (t : Fin cfg0.N) : iblk m c 0 t = V m c main_v31 := by
  funext x
  show V m c main_v31 ((win0_0.blk t).view.emb x) = V m c main_v31 x
  refine congrArg _ ?_
  funext a; apply Fin.ext
  fin_cases a <;> blk_simp [ind0]

theorem iblk1_eq (c : Dev nD) (t : Fin cfg0.N) : iblk m c 1 t = V m c main_arg4 := by
  funext x
  show V m c main_arg4 ((win0_1.blk t).view.emb x) = V m c main_arg4 x
  refine congrArg _ ?_
  funext a; apply Fin.ext
  fin_cases a <;> blk_simp [ind1]

/-- It writes its three results whole. -/
theorem arr2_eq (c : Dev nD) : (dats m 0 c).arrAt 2 cfg0.N = k0_pay1 (V m c main_v31) := by
  refine (dats m 0 c).arrAt_eq_of_covers 2 _ (by decide +kernel) fun t hf y => ?_
  have e : (win0_2.blk t).view.emb y = y := by
    funext a; apply Fin.ext
    fin_cases a <;> blk_simp [ind2]
  blk_simp
  rw [after0_2]
  unfold out0_2
  rw [View.canon_unit_zero hz4, View.ld_unit_zero hz4, iblk0_eq]
  exact congrArg _ e.symm

theorem arr3_eq (c : Dev nD) : (dats m 0 c).arrAt 3 cfg0.N = k0_pay2 (V m c main_v31) := by
  refine (dats m 0 c).arrAt_eq_of_covers 3 _ (by decide +kernel) fun t hf y => ?_
  have e : (win0_3.blk t).view.emb y = y := by
    funext a; apply Fin.ext
    fin_cases a <;> blk_simp [ind3]
  blk_simp
  rw [after0_3]
  unfold out0_3
  rw [View.canon_unit_zero hz4, View.ld_unit_zero hz4, iblk0_eq]
  exact congrArg _ e.symm

theorem arr4_eq (c : Dev nD) : (dats m 0 c).arrAt 4 cfg0.N = k0_pay3 (V m c main_arg4) := by
  refine (dats m 0 c).arrAt_eq_of_covers 4 _ (by decide +kernel) fun t hf y => ?_
  have e : (win0_4.blk t).view.emb y = y := by
    funext a; apply Fin.ext
    fin_cases a <;> blk_simp [ind4]
  blk_simp
  rw [after0_4]
  unfold out0_4
  rw [View.canon_unit_zero hz4, View.ld_unit_zero hz4, iblk1_eq]
  exact congrArg _ e.symm

end Region

section Run

variable (m : (ℓ : Loc nD τ sig) → Buf (Elt Ideal) ℓ) (ρ : Dev nD → PrngReg)

/-- The memory the operations after the region start from. -/
abbrev exitV (c : Dev nD) : Valuation τ sig (Elt Ideal) :=
  Pipeline.withArrays spec0 c (V0 m c) fun w => (dats m 0 c).arrAt w cfg0.N

theorem exit_v0 (c : Dev nD) : exitV m c (Proc.devRef .tc main_v0) = tab1 (F := Ideal) (m ((c : Thread nD τ).loc main_arg1)) :=
  (Pipeline.withArrays_of_ne _ c (V0 m c) _ main_v0 (by exact (by decide : ∀ w, Pipeline.arrRef spec0 w ≠ main_v0))).trans (pre_v0 _)
theorem exit_v1 (c : Dev nD) : exitV m c (Proc.devRef .tc main_v1) = tab1 (F := Ideal) (m ((c : Thread nD τ).loc main_arg2)) :=
  (Pipeline.withArrays_of_ne _ c (V0 m c) _ main_v1 (by exact (by decide : ∀ w, Pipeline.arrRef spec0 w ≠ main_v1))).trans (pre_v1 _)
theorem exit_v16 (c : Dev nD) : exitV m c (Proc.devRef .tc main_v16) = aKr (F := Ideal) (m ((c : Thread nD τ).loc main_arg0)) (m ((c : Thread nD τ).loc main_arg1)) (m ((c : Thread nD τ).loc main_arg2)) :=
  (Pipeline.withArrays_of_ne _ c (V0 m c) _ main_v16 (by exact (by decide : ∀ w, Pipeline.arrRef spec0 w ≠ main_v16))).trans (pre_v16 _)
theorem exit_v18 (c : Dev nD) : exitV m c (Proc.devRef .tc main_v18) = amR (aKr (F := Ideal) (m ((c : Thread nD τ).loc main_arg0)) (m ((c : Thread nD τ).loc main_arg1)) (m ((c : Thread nD τ).loc main_arg2))) :=
  (Pipeline.withArrays_of_ne _ c (V0 m c) _ main_v18 (by exact (by decide : ∀ w, Pipeline.arrRef spec0 w ≠ main_v18))).trans (pre_v18 _)
theorem exit_v26 (c : Dev nD) : exitV m c (Proc.devRef .tc main_v26) = aSc (F := Ideal) (m ((c : Thread nD τ).loc main_arg0)) (m ((c : Thread nD τ).loc main_arg1)) (m ((c : Thread nD τ).loc main_arg2)) (m ((c : Thread nD τ).loc main_arg3)) :=
  (Pipeline.withArrays_of_ne _ c (V0 m c) _ main_v26 (by exact (by decide : ∀ w, Pipeline.arrRef spec0 w ≠ main_v26))).trans (pre_v26 _)
theorem exit_arg5 (c : Dev nD) : exitV m c (Proc.devRef .tc main_arg5) = (m ((c : Thread nD τ).loc main_arg5)) :=
  (Pipeline.withArrays_of_ne _ c (V0 m c) _ main_arg5 (by exact (by decide : ∀ w, Pipeline.arrRef spec0 w ≠ main_arg5))).trans (V_main_arg5 m c)
theorem exit_v32_0 (c : Dev nD) : exitV m c (Proc.devRef .tc main_v32_0) = aQi (m ((c : Thread nD τ).loc main_arg0)) (m ((c : Thread nD τ).loc main_arg1)) (m ((c : Thread nD τ).loc main_arg2)) (m ((c : Thread nD τ).loc main_arg3)) := by
  refine (Pipeline.withArrays_arr spec0 launch0.win.arr_inj c (V0 m c) _ 2).trans ((arr2_eq m c).trans ((congrArg k0_pay1 (pre_v31 _)).trans ?_))
  unfold k0_pay1 aQi
  rw [shapeCast_self]
theorem exit_v32_1 (c : Dev nD) : exitV m c (Proc.devRef .tc main_v32_1) = aQf (m ((c : Thread nD τ).loc main_arg0)) (m ((c : Thread nD τ).loc main_arg1)) (m ((c : Thread nD τ).loc main_arg2)) (m ((c : Thread nD τ).loc main_arg3)) := by
  refine (Pipeline.withArrays_arr spec0 launch0.win.arr_inj c (V0 m c) _ 3).trans ((arr3_eq m c).trans ((congrArg k0_pay2 (pre_v31 _)).trans ?_))
  unfold k0_pay2 k0_pay1 aQf aQi
  rw [shapeCast_self]
theorem exit_v32_2 (c : Dev nD) : exitV m c (Proc.devRef .tc main_v32_2) = wid (F := Ideal) (m ((c : Thread nD τ).loc main_arg4)) := by
  refine (Pipeline.withArrays_arr spec0 launch0.win.arr_inj c (V0 m c) _ 4).trans ((arr4_eq m c).trans ((congrArg k0_pay3 (V_main_arg4 m c)).trans ?_))
  rfl

theorem fin_v65 (c : Dev nD) : Pipeline.afterTail₀ cfgs (dats m) 0 (V0 m) [hostOps1, hostOps1_1, hostOps1_2, hostOps1_3, hostOps1_4] c main_v65 = dkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_v65 (exitV m c)).trans ?_
  rw [exit_v16, exit_v26, exit_v32_2, exit_arg5, exit_v0, exit_v1]
  exact aDk_eq ..

theorem fin_v50 (c : Dev nD) : Pipeline.afterTail₀ cfgs (dats m) 0 (V0 m) [hostOps1, hostOps1_1, hostOps1_2, hostOps1_3, hostOps1_4] c main_v50 = dalA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_v50 (exitV m c)).trans ?_
  rw [exit_v16, exit_v26, exit_v32_1, exit_v32_2, exit_arg5, exit_v18]
  exact aDal_eq ..

theorem fin_v49 (c : Dev nD) : Pipeline.afterTail₀ cfgs (dats m) 0 (V0 m) [hostOps1, hostOps1_1, hostOps1_2, hostOps1_3, hostOps1_4] c main_v49 = tokA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_v49 (exitV m c)).trans ?_
  rw [exit_v16, exit_v26, exit_v32_1, exit_v32_2, exit_arg5, exit_v18]
  exact aTok_eq ..

theorem fin_v76 (c : Dev nD) : Pipeline.afterTail₀ cfgs (dats m) 0 (V0 m) [hostOps1, hostOps1_1, hostOps1_2, hostOps1_3, hostOps1_4] c main_v76 = codeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_v76 (exitV m c)).trans ?_
  rw [exit_v32_0]
  exact aCode_eq ..

theorem fin_v26 (c : Dev nD) : Pipeline.afterTail₀ cfgs (dats m) 0 (V0 m) [hostOps1, hostOps1_1, hostOps1_2, hostOps1_3, hostOps1_4] c main_v26 = scA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_v26 (exitV m c)).trans ?_
  rw [exit_v26]
  exact aSc_eq ..

/-- The reference's run: its five results as the specification's arrays, its arguments unchanged. -/
theorem run : θ_run defs (onTc (τ := τ) (main (F := Ideal))) ⟨m, fun _ => 0, ρ⟩ (fun r => ∀ c : Dev nD,
      r.2.mem ((c.tc : Thread nD τ).loc main_v65) = dkA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v50) = dalA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v49) = tokA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v76) = codeA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v26) = scA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = (m ((c : Thread nD τ).loc main_arg0))
      ∧ r.2.mem ((c.tc : Thread nD τ).loc main_arg1) = (m ((c : Thread nD τ).loc main_arg1))
      ∧ r.2.mem ((c.tc : Thread nD τ).loc main_arg2) = (m ((c : Thread nD τ).loc main_arg2))
      ∧ r.2.mem ((c.tc : Thread nD τ).loc main_arg3) = (m ((c : Thread nD τ).loc main_arg3))
      ∧ r.2.mem ((c.tc : Thread nD τ).loc main_arg4) = (m ((c : Thread nD τ).loc main_arg4))
      ∧ r.2.mem ((c.tc : Thread nD τ).loc main_arg5) = (m ((c : Thread nD τ).loc main_arg5))) :=
  (θ_run defs _ _).mono (fun _ h c => ⟨((h c).2 main_v65 (Pipeline.mem_restRefs_of main_v65 (by decide) (by decide))).trans (fin_v65 m c),
      ((h c).2 main_v50 (Pipeline.mem_restRefs_of main_v50 (by decide) (by decide))).trans (fin_v50 m c),
      ((h c).2 main_v49 (Pipeline.mem_restRefs_of main_v49 (by decide) (by decide))).trans (fin_v49 m c),
      ((h c).2 main_v76 (Pipeline.mem_restRefs_of main_v76 (by decide) (by decide))).trans (fin_v76 m c),
      ((h c).2 main_v26 (Pipeline.mem_restRefs_of main_v26 (by decide) (by decide))).trans (fin_v26 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c)⟩) (run_main m ρ)

end Run

end Cert.ReferenceIdeal.Arr

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_positive
public import proofs.«01_k».proof.Proof.Kernel.Frame
public import proofs.«01_k».proof.Proof.KernelIdeal.Frame
public import proofs.«01_k».proof.Proof.KernelIdeal.Pre
public import proofs.«01_k».proof.Proof.Ref.Final
public import Idealize.ShloMosaic.Adequacy
public import Idealize.ShloMosaic.Init

@[expose] public section

noncomputable section

namespace Cert.Proof

open Idealize.ShloMosaic Idealize.SL.Sem Cert.Kernel

/-- The kernel and the reference both return the specification's arrays of the arguments. -/
theorem algebraic : Cert.algebraic_KernelIdeal_ReferenceIdeal_pre_positive := by
  intro m g m' g' hp ha
  refine ⟨fun c => Cert.KernelIdeal.Body.rDk m c, fun c => Cert.KernelIdeal.Body.rDal m c, fun c => Cert.KernelIdeal.Body.rTok m c,
    fun c => Cert.KernelIdeal.Body.rCode m c, fun c => Cert.KernelIdeal.Body.rSc m c,
    Cert.KernelIdeal.Body.run m g (Cert.KernelIdeal.Body.good m hp), ?_⟩
  refine (θ_run Cert.ReferenceIdeal.defs _ _).mono (fun r h c => ?_) (Cert.ReferenceIdeal.Arr.run m' g')
  obtain ⟨h0, h1, h2, h3, h4, hargs⟩ := h c
  obtain ⟨a0, a1, a2, a3, a4, a5⟩ := ha c
  rw [a0, a1, a2, a3, a4, a5] at h0 h1 h2 h3 h4
  exact ⟨h0, h1, h2, h3, h4, hargs⟩

/-- The frames of the three programs, that naming 1/7 preserves the kernel, and that the kernel computes the reference. -/
theorem claim : Cert.Claim := ⟨Cert.Kernel.Gen.facts, Cert.KernelIdeal.Gen.facts, Cert.ReferenceIdeal.Gen.facts, Cert.Pre_positive.Gen.facts,
  fun m g _ => Cert.Kernel.Body.frame m g, fun m g _ => Cert.KernelIdeal.Body.frame m g, fun m g _ => Cert.KernelIdeal.Body.frame m g,
  fun m g _ => Cert.ReferenceIdeal.Gen.frame m g, fun m g _ => Cert.ReferenceIdeal.Gen.frame m g,
  IdealRules.named_const.statement Cert.KernelIdeal.κ "inv_qmax" .f32 0x3E124925#32 ((1 / 7 : ℝ) : EReal) rfl, algebraic⟩

end Cert.Proof

end
